-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x32 : Shape := ⟨2, ![512, 32]⟩
abbrev S2048x1 : Shape := ⟨2, ![2048, 1]⟩
abbrev S4x512x1024 : Shape := ⟨3, ![4, 512, 1024]⟩
abbrev S2048x1024 : Shape := ⟨2, ![2048, 1024]⟩
abbrev S3x4x512x1024 : Shape := ⟨4, ![3, 4, 512, 1024]⟩
abbrev S8x32 : Shape := ⟨2, ![8, 32]⟩
abbrev S4 : Shape := ⟨1, ![4]⟩
abbrev S7 : Shape := ⟨1, ![7]⟩
abbrev S2048x32 : Shape := ⟨2, ![2048, 32]⟩
abbrev S32 : Shape := ⟨1, ![32]⟩
abbrev S1x32 : Shape := ⟨2, ![1, 32]⟩
abbrev S_ : Shape := ⟨0, ![]⟩
abbrev S1 : Shape := ⟨1, ![1]⟩
abbrev S1x4x512x1024 : Shape := ⟨4, ![1, 4, 512, 1024]⟩
abbrev S2047x32 : Shape := ⟨2, ![2047, 32]⟩
abbrev S2x32 : Shape := ⟨2, ![2, 32]⟩
abbrev S2046x32 : Shape := ⟨2, ![2046, 32]⟩
abbrev S4x32 : Shape := ⟨2, ![4, 32]⟩
abbrev S2044x32 : Shape := ⟨2, ![2044, 32]⟩
abbrev S2040x32 : Shape := ⟨2, ![2040, 32]⟩
abbrev S16x32 : Shape := ⟨2, ![16, 32]⟩
abbrev S2032x32 : Shape := ⟨2, ![2032, 32]⟩
abbrev S32x32 : Shape := ⟨2, ![32, 32]⟩
abbrev S2016x32 : Shape := ⟨2, ![2016, 32]⟩
abbrev S64x32 : Shape := ⟨2, ![64, 32]⟩
abbrev S1984x32 : Shape := ⟨2, ![1984, 32]⟩
abbrev S128x32 : Shape := ⟨2, ![128, 32]⟩
abbrev S1920x32 : Shape := ⟨2, ![1920, 32]⟩
abbrev S256x32 : Shape := ⟨2, ![256, 32]⟩
abbrev S1792x32 : Shape := ⟨2, ![1792, 32]⟩
abbrev S1536x32 : Shape := ⟨2, ![1536, 32]⟩
abbrev S1024x32 : Shape := ⟨2, ![1024, 32]⟩
abbrev S2048 : Shape := ⟨1, ![2048]⟩
abbrev S512x512 : Shape := ⟨2, ![512, 512]⟩
abbrev S512x1 : Shape := ⟨2, ![512, 1]⟩
abbrev S512x2048 : Shape := ⟨2, ![512, 2048]⟩
abbrev S512x1024 : Shape := ⟨2, ![512, 1024]⟩
abbrev S1x2x512x1024 : Shape := ⟨4, ![1, 2, 512, 1024]⟩
abbrev S2x512x1024 : Shape := ⟨3, ![2, 512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S4x512x1024, .bf16⟩
  | .hbm, ⟨4, _⟩ => ⟨S2048x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S2048x1024, .f32⟩
  | .local _ .vmem, ⟨4, _⟩ => ⟨S3x4x512x1024, .bf16⟩
  | .local _ .vmem, ⟨5, _⟩ => ⟨S3x4x512x1024, .bf16⟩
  | .local _ .vmem, ⟨6, _⟩ => ⟨S8x32, .i32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v16 : Index := Scalar.indexCast v2
  let c0_6 : Index := 0#32
  ![v16.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v21 : BitVec 32 := Scalar.addi v2 c1_i32_7
  let c8_i32_8 : BitVec 32 := 8#32
  let v22 : BitVec 32 := Scalar.remsi v21 c8_i32_8
  let c1_i32_10 : BitVec 32 := 1#32
  let v23 : BitVec 32 := Scalar.muli v22 c1_i32_10
  let v24 : BitVec 32 := Scalar.addi c0_i32 v23
  v24.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v25 : BitVec 32 := Scalar.addi v2 c2_i32
  let c8_i32_11 : BitVec 32 := 8#32
  let v26 : BitVec 32 := Scalar.remsi v25 c8_i32_11
  let c1_i32_13 : BitVec 32 := 1#32
  let v27 : BitVec 32 := Scalar.muli v26 c1_i32_13
  let v28 : BitVec 32 := Scalar.addi c0_i32_14 v27
  v28.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v29 : BitVec 32 := Scalar.addi v2 c3_i32
  let c8_i32_15 : BitVec 32 := 8#32
  let v30 : BitVec 32 := Scalar.remsi v29 c8_i32_15
  let c1_i32_17 : BitVec 32 := 1#32
  let v31 : BitVec 32 := Scalar.muli v30 c1_i32_17
  let v32 : BitVec 32 := Scalar.addi c0_i32_18 v31
  v32.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v33 : BitVec 32 := Scalar.addi v2 c4_i32
  let c8_i32_19 : BitVec 32 := 8#32
  let v34 : BitVec 32 := Scalar.remsi v33 c8_i32_19
  let c1_i32_21 : BitVec 32 := 1#32
  let v35 : BitVec 32 := Scalar.muli v34 c1_i32_21
  let v36 : BitVec 32 := Scalar.addi c0_i32_22 v35
  v36.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v37 : BitVec 32 := Scalar.addi v2 c5_i32
  let c8_i32_23 : BitVec 32 := 8#32
  let v38 : BitVec 32 := Scalar.remsi v37 c8_i32_23
  let c1_i32_25 : BitVec 32 := 1#32
  let v39 : BitVec 32 := Scalar.muli v38 c1_i32_25
  let v40 : BitVec 32 := Scalar.addi c0_i32_26 v39
  v40.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v41 : BitVec 32 := Scalar.addi v2 c6_i32
  let c8_i32_27 : BitVec 32 := 8#32
  let v42 : BitVec 32 := Scalar.remsi v41 c8_i32_27
  let c1_i32_29 : BitVec 32 := 1#32
  let v43 : BitVec 32 := Scalar.muli v42 c1_i32_29
  let v44 : BitVec 32 := Scalar.addi c0_i32_30 v43
  v44.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v45 : BitVec 32 := Scalar.addi v2 c7_i32
  let c8_i32_31 : BitVec 32 := 8#32
  let v46 : BitVec 32 := Scalar.remsi v45 c8_i32_31
  let c1_i32_33 : BitVec 32 := 1#32
  let v47 : BitVec 32 := Scalar.muli v46 c1_i32_33
  let v48 : BitVec 32 := Scalar.addi c0_i32_34 v47
  v48.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_54 : BitVec 32 := 0#32
  ![v2.toNat, 0]
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v49 : BitVec 32 := Scalar.addi v2 c1_i32_36
  let c8_i32_37 : BitVec 32 := 8#32
  let v50 : BitVec 32 := Scalar.remsi v49 c8_i32_37
  let c1_i32_52 : BitVec 32 := 1#32
  let v63 : BitVec 32 := Scalar.muli v50 c1_i32_52
  let v64 : BitVec 32 := Scalar.addi c0_i32_53 v63
  v64.toNat
def k0_dev9 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_38 : BitVec 32 := 2#32
  let v51 : BitVec 32 := Scalar.addi v2 c2_i32_38
  let c8_i32_39 : BitVec 32 := 8#32
  let v52 : BitVec 32 := Scalar.remsi v51 c8_i32_39
  let c1_i32_58 : BitVec 32 := 1#32
  let v71 : BitVec 32 := Scalar.muli v52 c1_i32_58
  let v72 : BitVec 32 := Scalar.addi c0_i32_59 v71
  v72.toNat
def k0_dev10 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_40 : BitVec 32 := 3#32
  let v53 : BitVec 32 := Scalar.addi v2 c3_i32_40
  let c8_i32_41 : BitVec 32 := 8#32
  let v54 : BitVec 32 := Scalar.remsi v53 c8_i32_41
  let c1_i32_64 : BitVec 32 := 1#32
  let v79 : BitVec 32 := Scalar.muli v54 c1_i32_64
  let v80 : BitVec 32 := Scalar.addi c0_i32_65 v79
  v80.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_42 : BitVec 32 := 4#32
  let v55 : BitVec 32 := Scalar.addi v2 c4_i32_42
  let c8_i32_43 : BitVec 32 := 8#32
  let v56 : BitVec 32 := Scalar.remsi v55 c8_i32_43
  let c1_i32_70 : BitVec 32 := 1#32
  let v87 : BitVec 32 := Scalar.muli v56 c1_i32_70
  let v88 : BitVec 32 := Scalar.addi c0_i32_71 v87
  v88.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_44 : BitVec 32 := 5#32
  let v57 : BitVec 32 := Scalar.addi v2 c5_i32_44
  let c8_i32_45 : BitVec 32 := 8#32
  let v58 : BitVec 32 := Scalar.remsi v57 c8_i32_45
  let c1_i32_76 : BitVec 32 := 1#32
  let v95 : BitVec 32 := Scalar.muli v58 c1_i32_76
  let v96 : BitVec 32 := Scalar.addi c0_i32_77 v95
  v96.toNat
def k0_dev13 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_46 : BitVec 32 := 6#32
  let v59 : BitVec 32 := Scalar.addi v2 c6_i32_46
  let c8_i32_47 : BitVec 32 := 8#32
  let v60 : BitVec 32 := Scalar.remsi v59 c8_i32_47
  let c1_i32_82 : BitVec 32 := 1#32
  let v103 : BitVec 32 := Scalar.muli v60 c1_i32_82
  let v104 : BitVec 32 := Scalar.addi c0_i32_83 v103
  v104.toNat
def k0_dev14 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_48 : BitVec 32 := 7#32
  let v61 : BitVec 32 := Scalar.addi v2 c7_i32_48
  let c8_i32_49 : BitVec 32 := 8#32
  let v62 : BitVec 32 := Scalar.remsi v61 c8_i32_49
  let c1_i32_88 : BitVec 32 := 1#32
  let v111 : BitVec 32 := Scalar.muli v62 c1_i32_88
  let v112 : BitVec 32 := Scalar.addi c0_i32_89 v111
  v112.toNat
def k0_dev15 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_172 : BitVec 32 := 1#32
  let v189 : BitVec 32 := Scalar.muli v7 c1_i32_172
  let v190 : BitVec 32 := Scalar.addi c0_i32_173 v189
  v190.toNat
def k0_dev16 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_180 : BitVec 32 := 1#32
  let v197 : BitVec 32 := Scalar.muli v5 c1_i32_180
  let v198 : BitVec 32 := Scalar.addi c0_i32_181 v197
  v198.toNat
def k0_dev17 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_289 : BitVec 32 := 1#32
  let v417 : BitVec 32 := Scalar.muli v7 c1_i32_289
  let v418 : BitVec 32 := Scalar.addi c0_i32_290 v417
  v418.toNat
def k0_dev18 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_301 : BitVec 32 := 1#32
  let v427 : BitVec 32 := Scalar.muli v5 c1_i32_301
  let v428 : BitVec 32 := Scalar.addi c0_i32_302 v427
  v428.toNat
def k0_dev19 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_493 : BitVec 32 := 1#32
  let v749 : BitVec 32 := Scalar.muli v7 c1_i32_493
  let v750 : BitVec 32 := Scalar.addi c0_i32_494 v749
  v750.toNat
def k0_dev20 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_505 : BitVec 32 := 1#32
  let v759 : BitVec 32 := Scalar.muli v5 c1_i32_505
  let v760 : BitVec 32 := Scalar.addi c0_i32_506 v759
  v760.toNat
def k0_dev21 (d0 : Dev nD) : Nat :=
  let c0_i32_697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_696 : BitVec 32 := 1#32
  let v1081 : BitVec 32 := Scalar.muli v7 c1_i32_696
  let v1082 : BitVec 32 := Scalar.addi c0_i32_697 v1081
  v1082.toNat
def k0_dev22 (d0 : Dev nD) : Nat :=
  let c0_i32_709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_708 : BitVec 32 := 1#32
  let v1091 : BitVec 32 := Scalar.muli v5 c1_i32_708
  let v1092 : BitVec 32 := Scalar.addi c0_i32_709 v1091
  v1092.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x512 : Shape := ⟨2, ![16384, 512]⟩
abbrev S512x32 : Shape := ⟨2, ![512, 32]⟩
abbrev S16384x1 : Shape := ⟨2, ![16384, 1]⟩
abbrev S32x512x1024 : Shape := ⟨3, ![32, 512, 1024]⟩
abbrev S32 : Shape := ⟨1, ![32]⟩
abbrev S1x32 : Shape := ⟨2, ![1, 32]⟩
abbrev S16384x32 : Shape := ⟨2, ![16384, 32]⟩
abbrev S_ : Shape := ⟨0, ![]⟩
abbrev S16384x32x1024 : Shape := ⟨3, ![16384, 32, 1024]⟩
abbrev S16384x32x1 : Shape := ⟨3, ![16384, 32, 1]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x32, .bf16⟩
  | .hbm, ⟨2, _⟩ => ⟨S16384x1, .i32⟩
  | .hbm, ⟨3, _⟩ => ⟨S32x512x1024, .bf16⟩
  | .hbm, ⟨4, _⟩ => ⟨S32, .i32⟩
  | .hbm, ⟨5, _⟩ => ⟨S1x32, .i32⟩
  | .hbm, ⟨6, _⟩ => ⟨S16384x32, .i32⟩
  | .hbm, ⟨7, _⟩ => ⟨S16384x32, .i32⟩
  | .hbm, ⟨8, _⟩ => ⟨S16384x32, .i1⟩
  | .hbm, ⟨9, _⟩ => ⟨S16384x32, .i32⟩
  | .hbm, ⟨10, _⟩ => ⟨S_, .i32⟩
  | .hbm, ⟨11, _⟩ => ⟨S_, .i32⟩
  | .hbm, ⟨12, _⟩ => ⟨S16384x32, .i32⟩
  | .hbm, ⟨13, _⟩ => ⟨S16384x32, .i32⟩
  | .hbm, ⟨14, _⟩ => ⟨S_, .i32⟩
  | .hbm, ⟨15, _⟩ => ⟨S16384x32, .i32⟩
  | .hbm, ⟨16, _⟩ => ⟨S16384x32, .i1⟩
  | .hbm, ⟨17, _⟩ => ⟨S16384x32, .i32⟩
  | .hbm, ⟨18, _⟩ => ⟨S16384x32, .i32⟩
  | .hbm, ⟨19, _⟩ => ⟨S16384x512, .f32⟩
  | .hbm, ⟨20, _⟩ => ⟨S32x512x1024, .f32⟩
  | .hbm, ⟨21, _⟩ => ⟨S16384x32x1024, .f32⟩
  | .hbm, ⟨22, _⟩ => ⟨S16384x32x1, .i32⟩
  | .hbm, ⟨23, _⟩ => ⟨S_, .i32⟩
  | .hbm, ⟨24, _⟩ => ⟨S16384x32x1, .i32⟩
  | .hbm, ⟨25, _⟩ => ⟨S16384x32x1, .i1⟩
  | .hbm, ⟨26, _⟩ => ⟨S_, .f32⟩
  | .hbm, ⟨27, _⟩ => ⟨S_, .f32⟩
  | .hbm, ⟨28, _⟩ => ⟨S16384x32x1024, .i1⟩
  | .hbm, ⟨29, _⟩ => ⟨S16384x32x1024, .f32⟩
  | .hbm, ⟨30, _⟩ => ⟨S16384x32x1024, .f32⟩
  | .hbm, ⟨31, _⟩ => ⟨S_, .f32⟩
  | .hbm, ⟨32, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Proof.ProgramIdeal.lean ====
/-
The kernel's body written as the Python source has it: the counts exchange, the rounds of the two
rings of weights, and for each block of experts one product per quarter of the tokens. The last
theorem says that the printed body is this program.
-/
module

public import proofs.«01_k».proof.Proof.Gen.KernelIdeal.Skeleton
public import proofs.«01_k».proof.Proof.Gen.KernelIdeal.Launch
public import proofs.«01_k».proof.Proof.Gen.KernelIdeal.Points

@[expose] public section

set_option maxRecDepth 65536

noncomputable section

namespace Cert.KernelIdeal.Moe

open Cert.KernelIdeal Cert.KernelIdeal.Gen
open Idealize.ShloMosaic Idealize.SL.Sem

variable {F : FTy → Type} [FloatOps F]

/-! ## The buffers and semaphores -/

abbrev xM : Memref sig .tc .vmem S2048x512 .bf16 := Memref.whole cc0_stg0_0
abbrev eM : Memref sig .tc .vmem S2048x1 .i32 := Memref.whole cc0_stg1_0
abbrev wM : Memref sig .tc .vmem S4x512x1024 .bf16 := Memref.whole cc0_stg2_0
abbrev oM : Memref sig .tc .vmem S2048x1024 .f32 := Memref.whole cc0_stg3_0
abbrev rM : Memref sig .tc .vmem S3x4x512x1024 .bf16 := Memref.whole cc0_scratch0
abbrev lM : Memref sig .tc .vmem S3x4x512x1024 .bf16 := Memref.whole cc0_scratch1
abbrev cM : Memref sig .tc .vmem S8x32 .i32 := Memref.whole cc0_scratch2

/-- The runtime's barrier semaphore. -/
abbrev barS : Sem sig := (SemArray.scalar (sig.barrier 0 rfl) : Sems sig S_).sem

/-- The body's own transfer semaphores, in the order of the pool: four each for the sends and the
    arrivals of the right ring, of the left ring, then seven each for the sends and the arrivals of
    the counts. -/
def dsem (i : Fin 30) : DmaSem sig := ⟨4 + i.val, by have := i.isLt; change 4 + i.val < 34; omega⟩

theorem inb_slot : ∀ k : Fin 3, ∀ a, (![k.val, 0, 0, 0] : Fin 4 → Nat) a + S1x4x512x1024.size a ≤ S3x4x512x1024.size a := by decide
theorem inb_half : ∀ k : Fin 3, ∀ h : Fin 2, ∀ a, (![k.val, 2 * h.val, 0, 0] : Fin 4 → Nat) a + S1x2x512x1024.size a ≤ S3x4x512x1024.size a := by decide

/-- Slot `k` of a ring's buffer, as a block of four experts. -/
abbrev slotOf (M : Memref sig .tc .vmem S3x4x512x1024 .bf16) (k : Fin 3) : Memref sig .tc .vmem S4x512x1024 .bf16 :=
  (M.slice (Rect.unit (s := S3x4x512x1024) ![k.val, 0, 0, 0] S1x4x512x1024.size (inb_slot k)) (fun _ => rfl)).squeeze S4x512x1024 squeezes_S1x4x512x1024_S4x512x1024
/-- Half `h` of slot `k`: two of its four experts. -/
abbrev halfOf (M : Memref sig .tc .vmem S3x4x512x1024 .bf16) (k : Fin 3) (h : Fin 2) : Memref sig .tc .vmem S2x512x1024 .bf16 :=
  (M.slice (Rect.unit (s := S3x4x512x1024) ![k.val, 2 * h.val, 0, 0] S1x2x512x1024.size (inb_half k h)) (fun _ => rfl)).squeeze S2x512x1024 squeezes_S1x2x512x1024_S2x512x1024
/-- The row of the table of counts that belongs to device `d`. -/
abbrev rowOf (d : Dev nD) : Memref sig .tc .vmem S1x32 .i32 :=
  cM.slice (Rect.unit (s := S8x32) (k0_off2 d) S1x32.size (k0_off2_inb d)) (fun _ => rfl)

/-! ## What the body computes -/

/-- The weights of one origin as a matrix, its four experts one above the other. -/
def wcat (w : FVec F S4x512x1024 .bf16) : FVec F S2048x1024 .bf16 :=
  shapeCast S2048x1024 w shapeCasts_S4x512x1024_S2048x1024

/-- The tokens of expert `b`, kept where `keep` says. -/
def mask (e : IVec S2048x1 32) (keep : IVec S2048x1 1) (b : BitVec 32) : FVec F S2048x1 .bf16 :=
  truncf .bf16 (sitofp .f32 (extui 32 (andi (cmpi .eq e (broadcast S2048x1 b)) keep) natLt_1_32)) bitsLt_bf16_f32

/-- A quarter of the tokens with all but one expert's tokens set to zero. -/
def masked (o : ℕ) (hs : S2048x1.Slices ![o, 0] S512x1) (x : Vec F S512x512 .bf16) (mk : FVec F S2048x1 .bf16) : FVec F S512x512 .bf16 :=
  mulf (shapeCast S512x512 x shapeCasts_S512x512_S512x512)
    (broadcastTo S512x512 (extractStridedSlice S512x1 ![o, 0] mk hs) broadcasts_S512x1_S512x512)

/-- The experts of origin `o`, number `k` of them. -/
def expert (o k : BitVec 32) : BitVec 32 := Scalar.addi (Scalar.muli o 4#32) k

/-- One quarter's product with one origin's weights. -/
def contrib (o : ℕ) (hs : S2048x1.Slices ![o, 0] S512x1) (e : IVec S2048x1 32) (keep : IVec S2048x1 1) (or : BitVec 32)
    (w : FVec F S4x512x1024 .bf16) (x0 x1 x2 x3 : Vec F S512x512 .bf16) : FVec F S512x1024 .f32 :=
  matmul dot_S512x2048_S2048x1024_S512x1024_1_0_0_1_n_n none
    (concatenate S512x2048 1 [⟨S512x512, masked o hs x0 (mask e keep (expert or 0#32))⟩, ⟨S512x512, masked o hs x1 (mask e keep (expert or 1#32))⟩,
      ⟨S512x512, masked o hs x2 (mask e keep (expert or 2#32))⟩, ⟨S512x512, masked o hs x3 (mask e keep (expert or 3#32))⟩]
      concatenates_S512x512_S512x512_S512x512_S512x512_S512x2048_d1)
    (wcat w) (constant S512x1024 .f32 0x00000000#32)

/-- Whether a token is among the first 409 of its expert, from the tokens' experts and the table of counts. -/
def keepOf (v2 : BitVec 32) (v8 : Vec F S2048x1 .i32) (cn : Vec F S8x32 .i32) : IVec S2048x1 1 :=
  k0_pay9 (k0_pay3 v8) (k0_pay5 v2 cn) (k0_pay6 (k0_pay3 v8)) k0_pay7 (k0_pay8 (k0_pay3 v8))

/-- The origin of a block that has travelled: `b` is this device's number with the hops added or taken. -/
def originOf (b : BitVec 32) : BitVec 32 := Scalar.remsi (Scalar.addi b 16#32) 8#32

/-! ## The program's pieces -/

/-- The type of the body's programs. -/
abbrev P (F : FTy → Type) [FloatOps F] (α : Type) : Type _ := Prog (TpuEff nD τ sig (Elt F) Λ₀ .tc) α

/-- The facts a quarter's loads and stores at row `o` need. -/
structure Quarter (o : ℕ) : Prop where
  x : ∀ a, (![o, 0] : Fin 2 → Nat) a + S512x512.size a ≤ S2048x512.size a
  out : ∀ a, (![o, 0] : Fin 2 → Nat) a + S512x1024.size a ≤ S2048x1024.size a
  cut : S2048x1.Slices ![o, 0] S512x1

/-- A load of a quarter of the tokens. -/
def loadX (o : ℕ) (q : Quarter o) : P F (Vec F S512x512 .bf16) :=
  Prog.lift (.load xM (Rect.unit (s := S2048x512) ![o, 0] S512x512.size q.x).toLoadRect (View.loadsAt_vmem h_S512x512))
/-- A load of a quarter of the output. -/
def loadO (o : ℕ) (q : Quarter o) : P F (Vec F S512x1024 .f32) :=
  Prog.lift (.load oM (Rect.unit (s := S2048x1024) ![o, 0] S512x1024.size q.out).toLoadRect (View.loadsAt_vmem h_S512x1024))
/-- A store to a quarter of the output. -/
def storeO (o : ℕ) (q : Quarter o) (y : FVec F S512x1024 .f32) : P F PUnit :=
  Prog.lift (.store oM (Rect.unit (s := S2048x1024) ![o, 0] S512x1024.size q.out) y Finset.univ (View.stores_vmem_bits_univ h_S512x1024 rfl) (.inl rfl))

/-- A quarter of the first block: the output is set to the product. -/
def quarterSet (o : ℕ) (q : Quarter o) (e : IVec S2048x1 32) (keep : IVec S2048x1 1) (or : BitVec 32) (w : FVec F S4x512x1024 .bf16) : P F PUnit := do
  let x0 ← loadX o q
  let x1 ← loadX o q
  let x2 ← loadX o q
  let x3 ← loadX o q
  let _ ← loadO o q
  storeO o q (contrib o q.cut e keep or w x0 x1 x2 x3)

/-- A quarter of a later block: the product is added to the output. -/
def quarterAdd (o : ℕ) (q : Quarter o) (e : IVec S2048x1 32) (keep : IVec S2048x1 1) (or : BitVec 32) (w : FVec F S4x512x1024 .bf16) : P F PUnit := do
  let x0 ← loadX o q
  let x1 ← loadX o q
  let x2 ← loadX o q
  let x3 ← loadX o q
  let y ← loadO o q
  let _ ← loadO o q
  storeO o q (addf (shapeCast S512x1024 y shapeCasts_S512x1024_S512x1024) (contrib o q.cut e keep or w x0 x1 x2 x3))

theorem q0 : Quarter 0 := ⟨by decide, by decide, slices_S2048x1_o0_0_S512x1⟩
theorem q1 : Quarter 512 := ⟨by decide, by decide, slices_S2048x1_o512_0_S512x1⟩
theorem q2 : Quarter 1024 := ⟨by decide, by decide, slices_S2048x1_o1024_0_S512x1⟩
theorem q3 : Quarter 1536 := ⟨by decide, by decide, slices_S2048x1_o1536_0_S512x1⟩

/-- The first block. -/
def blockSet (e : IVec S2048x1 32) (keep : IVec S2048x1 1) (or : BitVec 32) (w : FVec F S4x512x1024 .bf16) : P F PUnit := do
  quarterSet 0 q0 e keep or w
  quarterSet 512 q1 e keep or w
  quarterSet 1024 q2 e keep or w
  quarterSet 1536 q3 e keep or w

/-- A later block. -/
def blockAdd (e : IVec S2048x1 32) (keep : IVec S2048x1 1) (or : BitVec 32) (w : FVec F S4x512x1024 .bf16) : P F PUnit := do
  quarterAdd 0 q0 e keep or w
  quarterAdd 512 q1 e keep or w
  quarterAdd 1024 q2 e keep or w
  quarterAdd 1536 q3 e keep or w

/-- A load of slot `k` of a ring's buffer, and the block it holds. -/
def loadSlot (M : Memref sig .tc .vmem S3x4x512x1024 .bf16) (k : Fin 3) : P F (Vec F S1x4x512x1024 .bf16) :=
  Prog.lift (.load M (Rect.unit (s := S3x4x512x1024) ![k.val, 0, 0, 0] S1x4x512x1024.size (inb_slot k)).toLoadRect (View.loadsAt_vmem h_S1x4x512x1024))
def blockOf (v : Vec F S1x4x512x1024 .bf16) : FVec F S4x512x1024 .bf16 :=
  shapeCast S4x512x1024 v shapeCasts_S1x4x512x1024_S4x512x1024

/-- A transfer to device `p`. -/
def copyTo {s : Shape} {e : EltTy} (src dst : Memref sig .tc .vmem s e) (hs : src.view.WordExact) (hd : dst.view.WordExact) (p : Dev nD) (ss rs : Fin 30) : P F PUnit :=
  Prog.lift (.enqueueDma src (.remote (Dev.tc p) dst (.dma (dsem ss))) (.dma (dsem rs)) hs hd ⟨⟨rfl, Or.inl rfl⟩, trivial⟩)
/-- A wait for a transfer of `src`'s and `dst`'s extent. -/
def waitFor {s : Shape} {e : EltTy} (i : Fin 30) (src dst : Memref sig .tc .vmem s e) (hs : src.view.WordExact) (hd : dst.view.WordExact) : P F PUnit :=
  Prog.lift (.waitDma2 (dsem i) src dst hs hd)

theorem slot_words (M : Memref sig .tc .vmem S3x4x512x1024 .bf16) (hM : M.IsWhole) (k : Fin 3) : (slotOf M k).view.WordExact := by
  fin_cases k
  · exact (hM.wordExact_slice rfl _ wordsbf16_S3x4x512x1024_S1x4x512x1024_0_0_0_0).reshape _ _
  · exact (hM.wordExact_slice rfl _ wordsbf16_S3x4x512x1024_S1x4x512x1024_1_0_0_0).reshape _ _
  · exact (hM.wordExact_slice rfl _ wordsbf16_S3x4x512x1024_S1x4x512x1024_2_0_0_0).reshape _ _
theorem half0_words (M : Memref sig .tc .vmem S3x4x512x1024 .bf16) (hM : M.IsWhole) : (halfOf M 0 0).view.WordExact :=
  (hM.wordExact_slice rfl _ wordsbf16_S3x4x512x1024_S1x2x512x1024_0_0_0_0).reshape _ _
theorem half1_words (M : Memref sig .tc .vmem S3x4x512x1024 .bf16) (hM : M.IsWhole) : (halfOf M 0 1).view.WordExact :=
  (hM.wordExact_slice rfl _ wordsbf16_S3x4x512x1024_S1x2x512x1024_0_2_0_0).reshape _ _
theorem half4_words (M : Memref sig .tc .vmem S3x4x512x1024 .bf16) (hM : M.IsWhole) : (halfOf M 2 0).view.WordExact :=
  (hM.wordExact_slice rfl _ wordsbf16_S3x4x512x1024_S1x2x512x1024_2_0_0_0).reshape _ _
theorem half5_words (M : Memref sig .tc .vmem S3x4x512x1024 .bf16) (hM : M.IsWhole) : (halfOf M 2 1).view.WordExact :=
  (hM.wordExact_slice rfl _ wordsbf16_S3x4x512x1024_S1x2x512x1024_2_2_0_0).reshape _ _

abbrev hr : (rM).IsWhole := Memref.isWhole_whole _
abbrev hl : (lM).IsWhole := Memref.isWhole_whole _

/-- Device `d`'s row of counts to device `p`. -/
def sendRow (d p : Dev nD) (ss rs : Fin 30) : P F PUnit :=
  copyTo (rowOf d) (rowOf d) (View.wordExact_bits rfl) (View.wordExact_bits rfl) p ss rs
/-- The two waits for a row. -/
def waitRow (d : Dev nD) (ss rs : Fin 30) : P F PUnit := do
  waitFor ss (rowOf d) (rowOf d) (View.wordExact_bits rfl) (View.wordExact_bits rfl)
  waitFor rs (rowOf d) (rowOf d) (View.wordExact_bits rfl) (View.wordExact_bits rfl)
/-- The four waits for the transfers of a round. -/
def waitRound {s : Shape} {e : EltTy} (r0 r1 l0 l1 : Memref sig .tc .vmem s e) (hr0 : r0.view.WordExact) (hr1 : r1.view.WordExact) (hl0 : l0.view.WordExact) (hl1 : l1.view.WordExact) (i0 i1 i2 i3 : Fin 30) : P F PUnit := do
  waitFor i0 r1 r0 hr1 hr0
  waitFor i1 r0 r1 hr0 hr1
  waitFor i2 l1 l0 hl1 hl0
  waitFor i3 l0 l1 hl0 hl1

/-- This device's counts into its row, then the entry barrier. -/
def enter (d : Dev nD) (e : Vec F S2048x1 .i32) : P F PUnit := do
  let _ ← (Prog.lift (.load cM (Rect.unit (s := S8x32) (k0_off1 d) S1x32.size (k0_off1_inb d)).toLoadRect (View.loadsAt_vmem h_S1x32)) : P F (Vec F S1x32 .i32))
  Prog.lift (.store cM (Rect.unit (s := S8x32) (k0_off1 d) S1x32.size (k0_off1_inb d)) (k0_pay4 e) Finset.univ (View.stores_vmem_bits_univ h_S1x32 rfl) (.inl rfl))
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semSignalWord (⟨k0_dev5 d, k0_dev5_lt d⟩ : Dev nD) barS 1#32
  semSignalWord (⟨k0_dev6 d, k0_dev6_lt d⟩ : Dev nD) barS 1#32
  semSignalWord (⟨k0_dev7 d, k0_dev7_lt d⟩ : Dev nD) barS 1#32
  semWaitWord barS 7#32

/-- The exchange of the counts. -/
def exchange (d : Dev nD) : P F PUnit := do
  sendRow d (⟨k0_dev8 d, k0_dev8_lt d⟩ : Dev nD) 16 23
  sendRow d (⟨k0_dev9 d, k0_dev9_lt d⟩ : Dev nD) 17 24
  sendRow d (⟨k0_dev10 d, k0_dev10_lt d⟩ : Dev nD) 18 25
  sendRow d (⟨k0_dev11 d, k0_dev11_lt d⟩ : Dev nD) 19 26
  sendRow d (⟨k0_dev12 d, k0_dev12_lt d⟩ : Dev nD) 20 27
  sendRow d (⟨k0_dev13 d, k0_dev13_lt d⟩ : Dev nD) 21 28
  sendRow d (⟨k0_dev14 d, k0_dev14_lt d⟩ : Dev nD) 22 29
  waitRow d 16 23
  waitRow d 17 24
  waitRow d 18 25
  waitRow d 19 26
  waitRow d 20 27
  waitRow d 21 28
  waitRow d 22 29

/-- This device's number, as the body reads it. -/
def meWord (d : Dev nD) : BitVec 32 := Scalar.remsi (Scalar.divsi (Dev.word d) 1#32) 8#32

/-- The first round: this device's weights to both neighbours, then its own block. -/
def round1 (d : Dev nD) (v8 : Vec F S2048x1 .i32) (v9 : IVec S2048x1 32) : P F (IVec S2048x1 1) := do
  copyTo wM (slotOf rM 0) (Memref.isWhole_whole _).wordExact (slot_words _ hr 0) (⟨k0_dev15 d, k0_dev15_lt d⟩ : Dev nD) 0 4
  copyTo wM (slotOf lM 0) (Memref.isWhole_whole _).wordExact (slot_words _ hl 0) (⟨k0_dev16 d, k0_dev16_lt d⟩ : Dev nD) 8 12
  let cn ← (Prog.lift (.load cM (Rect.unit (s := S8x32) ![0, 0] S8x32.size inb_S8x32_S8x32_0_0).toLoadRect (View.loadsAt_vmem h_S8x32)) : P F (Vec F S8x32 .i32))
  let w ← (Prog.lift (.load wM (Rect.unit (s := S4x512x1024) ![0, 0, 0] S4x512x1024.size inb_S4x512x1024_S4x512x1024_0_0_0).toLoadRect (View.loadsAt_vmem h_S4x512x1024)) : P F (Vec F S4x512x1024 .bf16))
  blockSet v9 (keepOf (meWord d) v8 cn) (originOf (meWord d)) (shapeCast S4x512x1024 w shapeCasts_S4x512x1024_S4x512x1024)
  waitRound wM (slotOf rM 0) wM (slotOf lM 0) (Memref.isWhole_whole _).wordExact (slot_words _ hr 0) (Memref.isWhole_whole _).wordExact (slot_words _ hl 0) 0 4 8 12
  pure (keepOf (meWord d) v8 cn)

/-- A middle round: both rings' slots passed on while the two blocks that arrived are used. -/
def roundMid (k k' : Fin 3) (pr pl : Dev nD) (i0 i1 i2 i3 : Fin 30) (v9 : IVec S2048x1 32) (keep : IVec S2048x1 1) (or ol : BitVec 32) : P F PUnit := do
  copyTo (slotOf rM k) (slotOf rM k') (slot_words _ hr k) (slot_words _ hr k') pr i0 i1
  copyTo (slotOf lM k) (slotOf lM k') (slot_words _ hl k) (slot_words _ hl k') pl i2 i3
  let wr ← loadSlot rM k
  blockAdd v9 keep or (blockOf wr)
  let wl ← loadSlot lM k
  blockAdd v9 keep ol (blockOf wl)
  waitRound (slotOf rM k) (slotOf rM k') (slotOf lM k) (slotOf lM k') (slot_words _ hr k) (slot_words _ hr k') (slot_words _ hl k) (slot_words _ hl k') i0 i1 i2 i3

/-- The last round: half of each ring's last slot makes up the block of the device opposite. -/
def roundLast (pr pl : Dev nD) (v9 : IVec S2048x1 32) (keep : IVec S2048x1 1) (or ol oo : BitVec 32) : P F PUnit := do
  copyTo (halfOf rM 2 0) (halfOf lM 0 0) (half4_words _ hr) (half0_words _ hl) pr 3 7
  copyTo (halfOf lM 2 1) (halfOf lM 0 1) (half5_words _ hl) (half1_words _ hl) pl 11 15
  let wr ← loadSlot rM 2
  blockAdd v9 keep or (blockOf wr)
  let wl ← loadSlot lM 2
  blockAdd v9 keep ol (blockOf wl)
  waitRound (halfOf rM 2 0) (halfOf lM 0 0) (halfOf lM 2 1) (halfOf lM 0 1) (half4_words _ hr) (half0_words _ hl) (half5_words _ hl) (half1_words _ hl) 3 7 11 15
  let wo ← loadSlot lM 0
  blockAdd v9 keep oo (blockOf wo)

/-- The whole body. -/
def prog : P F PUnit := do
  let d : Dev nD ← Prog.lift .deviceId
  let v8 ← (Prog.lift (.load eM (Rect.unit (s := S2048x1) ![0, 0] S2048x1.size inb_S2048x1_S2048x1_0_0).toLoadRect (View.loadsAt_vmem h_S2048x1)) : P F (Vec F S2048x1 .i32))
  enter d v8
  exchange d
  let keep ← round1 d v8 (k0_pay2 v8)
  roundMid 0 1 (⟨k0_dev17 d, k0_dev17_lt d⟩ : Dev nD) (⟨k0_dev18 d, k0_dev18_lt d⟩ : Dev nD) 1 5 9 13 (k0_pay2 v8) keep
    (originOf (Scalar.subi (meWord d) 1#32)) (originOf (Scalar.addi (meWord d) 1#32))
  roundMid 1 2 (⟨k0_dev19 d, k0_dev19_lt d⟩ : Dev nD) (⟨k0_dev20 d, k0_dev20_lt d⟩ : Dev nD) 2 6 10 14 (k0_pay2 v8) keep
    (originOf (Scalar.subi (meWord d) 2#32)) (originOf (Scalar.addi (meWord d) 2#32))
  roundLast (⟨k0_dev21 d, k0_dev21_lt d⟩ : Dev nD) (⟨k0_dev22 d, k0_dev22_lt d⟩ : Dev nD) (k0_pay2 v8) keep
    (originOf (Scalar.subi (meWord d) 3#32)) (originOf (Scalar.addi (meWord d) 3#32)) (originOf (Scalar.subi (meWord d) 4#32))

/-- The printed body is this program. -/
theorem body_eq : bodyAt0 (F := F) t0_0 = prog := by chain_rfl

end Cert.KernelIdeal.Moe

end
-- ==== Proof.CellsIdeal.lean ====
/-
The protocol of the kernel's semaphores. Each device has one barrier cell and thirty transfer cells, all of
them used for one round. The schedule says who pays which cell and with what, over the weights `Wt` and the
rows of counts `Ct` of all devices.
-/
module

public import proofs.«01_k».proof.Proof.ProgramIdeal
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-- The ghost state of the rounds, duties numbered by the distance of their payer. -/
abbrev UB : Type := URounds (GSem nD τ sig) (Fin 8)
abbrev UU : Type := UR sig nD τ × UB

local notation "𝕄" => MT nD τ sig Unit (Elt F) ℕ UU ℕ

abbrev EP : Emb (UR sig nD τ) 𝕄 := embL
abbrev ER : Emb UB 𝕄 := embR

/-! ## The mesh -/

/-- The device `k` places to the right of `c`. -/
def up (c : Dev nD) (k : ℕ) : Dev nD := ⟨(c.val + k) % 8, Nat.mod_lt _ (by decide)⟩

theorem up_val (c : Dev nD) (k : ℕ) : (up c k).val = (c.val + k) % 8 := rfl
theorem up_up (c : Dev nD) (a b : ℕ) : up (up c a) b = up c (a + b) := Fin.ext (by simp only [up_val]; omega)
theorem up_eight (c : Dev nD) : up c 8 = c := Fin.ext (by have := c.isLt; change c.val < 8 at this; simp only [up_val]; omega)
theorem up_zero (c : Dev nD) : up c 0 = c := Fin.ext (by have := c.isLt; change c.val < 8 at this; simp only [up_val]; omega)
theorem up_add_eight (c : Dev nD) (k : ℕ) : up c (k + 8) = up c k := Fin.ext (by simp only [up_val]; omega)
theorem up_inj {a b : Dev nD} {k : ℕ} (h : up a k = up b k) : a = b := by
  have := congrArg Fin.val h; simp only [up_val] at this
  have ha := a.isLt; have hb := b.isLt; change a.val < 8 at ha; change b.val < 8 at hb
  exact Fin.ext (by omega)

/-- Walking `k` places to the right, undone by walking the rest of the circle. -/
def walk (k : ℕ) (hk : k ≤ 8) : Dev nD ≃ Dev nD where
  toFun c := up c k
  invFun c := up c (8 - k)
  left_inv c := by show up (up c k) (8 - k) = c; rw [up_up, Nat.add_sub_cancel' hk, up_eight]
  right_inv c := by show up (up c (8 - k)) k = c; rw [up_up, Nat.sub_add_cancel hk, up_eight]

/-! ## The cells -/

abbrev barCell (c : Dev nD) : GSem nD τ sig := ((c : Thread nD τ), .reg barS)
abbrev dCell (c : Dev nD) (i : Fin 30) : GSem nD τ sig := ((c : Thread nD τ), .dma (dsem i))

theorem dsem_injective : Function.Injective dsem := fun i j h => by
  have : 4 + i.val = 4 + j.val := congrArg Fin.val h
  exact Fin.ext (by omega)

/-- The units of a transfer of a whole block of weights, of half a block and of a row of counts. -/
abbrev NS : ℕ := (slotOf rM 0).view.dmaCredit
abbrev NH : ℕ := (halfOf lM 0 0).view.dmaCredit
abbrev NR : ℕ := (rowOf 0).view.dmaCredit

def amt (i : Fin 30) : ℕ := if i.val < 16 then (if i.val % 4 = 3 then NH else NS) else NR

theorem amt_pos (i : Fin 30) : 0 < amt i := by
  unfold amt; split
  · split <;> exact View.dmaCredit_pos _ (by decide)
  · exact View.dmaCredit_pos _ (by decide)

/-! ## What the cells carry -/

/-- Two of a block's four experts. -/
abbrev rh (h : Fin 2) : Rect S4x512x1024 := Rect.unit (s := S4x512x1024) ![2 * h.val, 0, 0] S2x512x1024.size (by revert h; decide)
def half {α : Type} (h : Fin 2) (X : S4x512x1024.Idx → α) : S2x512x1024.Idx → α := fun j => X ((rh h).emb j)

variable (Wt : Dev nD → S4x512x1024.Idx → Elt F .bf16) (Ct : Dev nD → S1x32.Idx → Elt F .i32)

abbrev sA : PosShare TreeShare := fullShare.left
abbrev sB : PosShare TreeShare := fullShare.right.left
abbrev sC : PosShare TreeShare := fullShare.right.right

/-- A memref of device `c` held at some contents. -/
def some' (c : Dev nD) {sh : Shape} {e : EltTy} (M : Memref sig .tc .vmem sh e) : sProp 𝕄 :=
  iprop(∃ X, owns (c : Thread nD τ) M fullShare X)

/-- The three slots of a ring's buffer at some contents. -/
def slots (c : Dev nD) (M : Memref sig .tc .vmem S3x4x512x1024 .bf16) : sProp 𝕄 :=
  iprop(some' c (slotOf M 0) ∗ some' c (slotOf M 1) ∗ some' c (slotOf M 2))

instance some'_storable (c : Dev nD) {sh : Shape} {e : EltTy} (M : Memref sig .tc .vmem sh e) :
    BI.Storable (upEmb : UEmb _ 𝕄) (some' (F := F) c M) := by unfold some'; infer_instance
instance slots_storable (c : Dev nD) (M : Memref sig .tc .vmem S3x4x512x1024 .bf16) :
    BI.Storable (upEmb : UEmb _ 𝕄) (slots (F := F) c M) := by unfold slots; infer_instance

/-- What the signal of the device `8 - s` places to the right hands `c`: its row for `c`'s counts, and if it is a
    neighbour its buffer of the ring that `c` sends on to it. -/
def barPay (c : Dev nD) (s : Fin 8) : sProp 𝕄 :=
  iprop(some' (up c (8 - s.val)) (rowOf c) ∗ (if s = 7 then slots (up c 1) rM else emp) ∗ (if s = 1 then slots (up c 7) lM else emp))

/-- What the transfers of the two rings hand device `c`. -/
def ringPay (c : Dev nD) : ℕ → sProp 𝕄
  | 0 => owns (c : Thread nD τ) wM sA (Wt c)
  | 8 => owns (c : Thread nD τ) wM sB (Wt c)
  | 4 => owns (c : Thread nD τ) (slotOf rM 0) fullShare (Wt (up c 7))
  | 12 => owns (c : Thread nD τ) (slotOf lM 0) fullShare (Wt (up c 1))
  | 1 => owns (c : Thread nD τ) (slotOf rM 0) sA (Wt (up c 7))
  | 9 => owns (c : Thread nD τ) (slotOf lM 0) sA (Wt (up c 1))
  | 5 => owns (c : Thread nD τ) (slotOf rM 1) fullShare (Wt (up c 6))
  | 13 => owns (c : Thread nD τ) (slotOf lM 1) fullShare (Wt (up c 2))
  | 2 => owns (c : Thread nD τ) (slotOf rM 1) sA (Wt (up c 6))
  | 10 => owns (c : Thread nD τ) (slotOf lM 1) sA (Wt (up c 2))
  | 6 => iprop(owns (c : Thread nD τ) (slotOf rM 2) fullShare (Wt (up c 5)) ∗ some' (up c 7) (halfOf lM 0 1))
  | 14 => iprop(owns (c : Thread nD τ) (slotOf lM 2) fullShare (Wt (up c 3)) ∗ some' (up c 1) (halfOf lM 0 0))
  | 3 => owns (c : Thread nD τ) (halfOf rM 2 0) sA (half 0 (Wt (up c 5)))
  | 11 => owns (c : Thread nD τ) (halfOf lM 2 1) sA (half 1 (Wt (up c 3)))
  | 7 => owns (c : Thread nD τ) (halfOf lM 0 0) fullShare (half 0 (Wt (up c 4)))
  | 15 => owns (c : Thread nD τ) (halfOf lM 0 1) fullShare (half 1 (Wt (up c 4)))
  | _ => iprop(emp)

/-- What a transfer hands device `c`: on the rings, back from a send of its row, or another device's row. -/
def dmaPay (c : Dev nD) (i : Fin 30) : sProp 𝕄 :=
  if i.val < 16 then ringPay Wt c i.val
  else if h : i.val < 23 then owns (c : Thread nD τ) (rowOf c) (leaf 3 fullShare ⟨i.val - 16, by omega⟩) (Ct c)
  else owns (c : Thread nD τ) (rowOf (up c (30 - i.val))) fullShare (Ct (up c (30 - i.val)))

instance barPay_storable (c : Dev nD) (s : Fin 8) : BI.Storable (upEmb : UEmb _ 𝕄) (barPay (F := F) c s) := by
  unfold barPay
  split <;> split <;> infer_instance
instance ringPay_storable (c : Dev nD) (i : ℕ) : BI.Storable (upEmb : UEmb _ 𝕄) (ringPay Wt c i) := by
  unfold ringPay; split <;> infer_instance
instance dmaPay_storable (c : Dev nD) (i : Fin 30) : BI.Storable (upEmb : UEmb _ 𝕄) (dmaPay Wt Ct c i) := by
  unfold dmaPay; repeat' split
  all_goals infer_instance

/-! ## The schedule -/

/-- A transfer semaphore's number among the body's own. -/
def idx (q : DmaSem sig) : Option (Fin 30) := if h : 4 ≤ q.val ∧ q.val < 34 then some ⟨q.val - 4, by omega⟩ else none

theorem idx_dsem (i : Fin 30) : idx (dsem i) = some i := by
  have := i.isLt
  unfold idx dsem
  rw [dif_pos (by show 4 ≤ 4 + i.val ∧ 4 + i.val < 34; omega)]
  exact congrArg some (Fin.ext (by show 4 + i.val - 4 = i.val; omega))

/-- A cell's duties: a barrier's are the seven other devices, a transfer's its one payer. -/
def dutiesOf : SemLoc sig → Finset (Fin 8)
  | .reg s => if s = barS then Finset.univ.erase 0 else ∅
  | .dma q => if (idx q).isSome = true then {0} else ∅
/-- A duty's units. -/
def amountOf : SemLoc sig → ℕ
  | .reg _ => 1
  | .dma q => (idx q).elim 1 amt
/-- What a duty hands device `c`. -/
def payOf (c : Dev nD) (d : Fin 8) : SemLoc sig → sProp 𝕄
  | .reg _ => barPay c d
  | .dma q => (idx q).elim iprop(emp) (dmaPay Wt Ct c)

theorem amountOf_pos (sm : SemLoc sig) : 0 < amountOf sm := by
  cases sm with
  | reg s => exact Nat.one_pos
  | dma q => unfold amountOf; dsimp only; cases idx q with
    | none => exact Nat.one_pos
    | some i => exact amt_pos i

instance payOf_storable (c : Dev nD) (d : Fin 8) (sm : SemLoc sig) : BI.Storable (upEmb : UEmb _ 𝕄) (payOf Wt Ct c d sm) := by
  cases sm with
  | reg s => exact barPay_storable c d
  | dma q => unfold payOf; dsimp only; cases idx q with
    | none => unfold Option.elim; infer_instance
    | some i => exact dmaPay_storable Wt Ct c i

/-- One round: the barrier cell has a duty of one unit for each of the other devices, a transfer cell one duty of the
    transfer's units. -/
def sched : Rounds.Schedule (GSem nD τ sig) (Fin 8) 𝕄 where
  duties g r := if r = 0 ∧ g.1.2 = .tc then dutiesOf g.2 else ∅
  unitless _ := False
  amount g _ _ := amountOf g.2
  payload g _ d := payOf Wt Ct g.1.1 d g.2
  amount_pos g _ _ _ := amountOf_pos g.2

instance sched_payload_storable (g : GSem nD τ sig) (r : ℕ) (d : Fin 8) :
    BI.Storable (upEmb : UEmb _ 𝕄) ((sched Wt Ct).payload g r d) := payOf_storable Wt Ct g.1.1 d g.2

section Facts
variable (c : Dev nD) (i : Fin 30)

theorem duties_bar : (sched Wt Ct).duties (barCell c) 0 = Finset.univ.erase 0 := by
  unfold sched dutiesOf; dsimp only; rw [if_pos ⟨rfl, rfl⟩, if_pos rfl]
theorem duties_dma : (sched Wt Ct).duties (dCell c i) 0 = {0} := by
  unfold sched dutiesOf; dsimp only; rw [if_pos ⟨rfl, rfl⟩, idx_dsem]; rfl
theorem duties_later (g : GSem nD τ sig) : ∀ r, 1 ≤ r → (sched Wt Ct).duties g r = ∅ := fun r hr => by
  unfold sched; dsimp only; rw [if_neg (fun h => by omega)]

theorem amount_bar (d : Fin 8) : (sched Wt Ct).amount (barCell c) 0 d = 1 := by unfold sched amountOf; rfl
theorem amount_dma (d : Fin 8) : (sched Wt Ct).amount (dCell c i) 0 d = amt i := by
  unfold sched amountOf; dsimp only; rw [idx_dsem]; rfl
theorem payload_bar (d : Fin 8) : (sched Wt Ct).payload (barCell c) 0 d = barPay c d := by unfold sched payOf; rfl
theorem payload_dma (d : Fin 8) : (sched Wt Ct).payload (dCell c i) 0 d = dmaPay Wt Ct c i := by
  unfold sched payOf; dsimp only; rw [idx_dsem]; rfl

theorem expect_bar : (sched Wt Ct).expect (barCell c) 0 = 7 := by
  unfold Schedule.expect Schedule.amountOf
  rw [duties_bar, Finset.sum_congr rfl fun d _ => amount_bar Wt Ct c d, Finset.sum_const, smul_eq_mul, Nat.mul_one]; decide
theorem expect_dma : (sched Wt Ct).expect (dCell c i) 0 = amt i := by
  unfold Schedule.expect Schedule.amountOf; rw [duties_dma, Finset.sum_singleton, amount_dma]

/-- All the barrier hands a device. -/
theorem rest_bar : bigSep ((sched Wt Ct).duties (barCell c) 0 \ ∅) (fun d => (sched Wt Ct).payload (barCell c) 0 d)
    = iprop(barPay c 1 ∗ barPay c 2 ∗ barPay c 3 ∗ barPay c 4 ∗ barPay c 5 ∗ barPay c 6 ∗ (barPay c 7 : sProp 𝕄)) := by
  rw [Finset.sdiff_empty, duties_bar, bigSep_eq_bigSepL_of_eq [1, 2, 3, 4, 5, 6, 7] (by decide) (by decide)]
  simp only [payload_bar]; rfl
theorem rest_dma : bigSep ((sched Wt Ct).duties (dCell c i) 0 \ ∅) (fun d => (sched Wt Ct).payload (dCell c i) 0 d) = dmaPay Wt Ct c i := by
  rw [Finset.sdiff_empty, duties_dma, bigSep_singleton, payload_dma]
end Facts

/-! ## What a device owes, and the levels -/

/-- A cell of a device by its number, the barrier's being `none`. -/
abbrev csem : Option (Fin 30) → SemLoc sig
  | none => .reg barS
  | some i => .dma (dsem i)
abbrev kcell (ck : Dev nD × Option (Fin 30)) : GSem nD τ sig := ((ck.1 : Thread nD τ), csem ck.2)
def units : Option (Fin 30) → ℕ
  | none => 1
  | some i => amt i

/-- The payments on other devices' cells in the order the body makes them: the cell and the way to its device. -/
def plan : List (Option (Fin 30) × ℕ) :=
  [(none, 1), (none, 2), (none, 3), (none, 4), (none, 5), (none, 6), (none, 7),
   (some 23, 1), (some 24, 2), (some 25, 3), (some 26, 4), (some 27, 5), (some 28, 6), (some 29, 7),
   (some 4, 1), (some 12, 7), (some 5, 1), (some 13, 7), (some 6, 1), (some 14, 7), (some 7, 1), (some 15, 7)]

/-- What a list of payments comes to. -/
def owe (c : Dev nD) : List (Option (Fin 30) × ℕ) → CellTallies nD τ sig Unit
  | [] => 0
  | x :: l => owe c l + tallyAt (kcell (up c x.2, x.1)) () (units x.1)

/-- The levels: the barrier, the counts, then the rounds of the rings; sends and staging below all. -/
def lvl : Option (Fin 30) → ℕ
  | none => 1
  | some i => if 23 ≤ i.val then 2 else if i.val = 4 ∨ i.val = 12 then 3 else if i.val = 5 ∨ i.val = 13 then 4
    else if i.val = 6 ∨ i.val = 14 then 5 else if i.val = 7 ∨ i.val = 15 then 6 else 0

def L (g : GSem nD τ sig) : Finset Unit := if g.1.2 = .tc then {()} else ∅
def lv (g : GSem nD τ sig) (_ : Unit) : ℕ := match g.2 with
  | .reg s => if s = barS then 1 else 0
  | .dma q => match idx q with
    | some i => lvl (some i)
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Option (Fin 30)) (u : Unit) : lv (kcell (c, k)) u = lvl k := by
  cases k with
  | none => unfold lv; dsimp only; rw [if_pos rfl]; rfl
  | some i => unfold lv; dsimp only; rw [idx_dsem]

theorem owe_pos {c : Dev nD} {g : GSem nD τ sig} {u : Unit} : ∀ {l : List (Option (Fin 30) × ℕ)}, 0 < owe c l g u → ∃ x ∈ l, g = kcell (up c x.2, x.1)
  | [], h => absurd h (Nat.lt_irrefl 0)
  | x :: l, h => by
    unfold owe at h
    rw [Pi.add_apply, Finsupp.add_apply, tallyAt_apply] at h
    by_cases hg : g = kcell (up c x.2, x.1)
    · exact ⟨x, List.mem_cons_self, hg⟩
    · rw [if_neg (fun h' => hg h'.1), Nat.add_zero] at h
      obtain ⟨y, hy, e⟩ := owe_pos h
      exact ⟨y, List.mem_cons_of_mem _ hy, e⟩

/-- A device that owes only above a cell's level may wait there. -/
theorem mayWait (c : Dev nD) (sm : SemLoc sig) (n : ℕ) (hn : lv ((c : Thread nD τ), sm) () ≤ n) (l : List (Option (Fin 30) × ℕ))
    (hl : ∀ x ∈ l, n < lvl x.1) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hn)
    (fun g u hg => by obtain ⟨x, hx, rfl⟩ := owe_pos hg; rw [lv_kcell]; exact hl x hx)

end Cert.KernelIdeal.Moe

end
-- ==== Proof.OwnIdeal.lean ====
/-
Holding the body's buffers: a buffer held in shares, a ring's buffer held slot by slot and a slot half by half,
the table of counts held row by row; and what the body's loads and stores do to what is held.
-/
module

public import proofs.«01_k».proof.Proof.CellsIdeal
public import Idealize.ShloMosaic.Lib.Ring
public import Idealize.ShloMosaic.Lib.ValueLayout
public import Idealize.ShloMosaic.Lib.VecWindow

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

/-! ## Shares -/

section Shares
variable (c : Dev nD) {sh : Shape} {e : EltTy} (M : Memref sig .tc .vmem sh e) (q : PosShare TreeShare) (X : sh.Idx → Elt F e)

/-- A memref held at `X` is its elements at contents that read `X`. -/
theorem owns_rep : (owns (c : Thread nD τ) M q X : sProp 𝕄) = (M.view.loc (c : Thread nD τ) ↦[M.view.set]{q} M.view.rep X) := by
  have h₁ : (owns (c : Thread nD τ) M q X : sProp 𝕄) ⊢ (M.view.loc (c : Thread nD τ) ↦[M.view.set]{q} M.view.rep X : sProp 𝕄) := by
    unfold owns
    iintro ⟨%f, %hf, H⟩
    iapply (pointsTo_rep_of_read (c : Thread nD τ) M f q X hf); iexact H
  have h₂ : (M.view.loc (c : Thread nD τ) ↦[M.view.set]{q} M.view.rep X : sProp 𝕄) ⊢ owns (c : Thread nD τ) M q X := by
    refine (owns_intro (c : Thread nD τ) M q (M.view.rep X)).trans ?_
    rw [View.read_rep]
  exact BI.equiv_iff.mp ⟨h₁, h₂⟩

/-- A memref held at a share is held at the share's two halves, and back. -/
theorem owns_halve : (owns (c : Thread nD τ) M q X : sProp 𝕄) = iprop(owns (c : Thread nD τ) M q.left X ∗ owns (c : Thread nD τ) M q.right X) := by
  rw [owns_rep, owns_rep, owns_rep]
  exact BI.equiv_iff.mp ⟨(pointsTo_share (PosShare.mem_left_op_right q)).1, (pointsTo_share (PosShare.mem_left_op_right q)).2⟩

/-- A memref held at a share is held at the share's eight leaves, and back. -/
theorem owns_leaves : (owns (c : Thread nD τ) M q X : sProp 𝕄) = bigSep Finset.univ fun i : Fin (2 ^ 3) => owns (c : Thread nD τ) M (leaf 3 q i) X := by
  rw [owns_rep, pointsTo_leaves]
  exact bigSep_congr fun i _ => (owns_rep c M _ X).symm

/-- A memref held at known contents is held. -/
theorem some'_intro : (owns (c : Thread nD τ) M fullShare X : sProp 𝕄) ⊢ some' c M := by
  unfold some'; iintro H; iexists X; iexact H

/-- Two memrefs of the same elements in the same order are held alike. -/
theorem owns_of_emb {M' : Memref sig .tc .vmem sh e} (h : M = M') : (owns (c : Thread nD τ) M q X : sProp 𝕄) = owns (c : Thread nD τ) M' q X := by rw [h]
end Shares

/-! ## Slots and halves -/

section Slots
variable (c : Dev nD) (M : Memref sig .tc .vmem S3x4x512x1024 .bf16) (q : PosShare TreeShare)

abbrev rs (k : Fin 3) : Rect S3x4x512x1024 := Rect.unit (s := S3x4x512x1024) ![k.val, 0, 0, 0] S1x4x512x1024.size (inb_slot k)

theorem rs_disjoint (k k' : Fin 3) (h : k ≠ k') : Disjoint (rs k).set (rs k').set := by
  refine Finset.disjoint_left.mpr fun i hi hi' => h ?_
  have h1 := (Rect.mem_set_unit.mp hi) (0 : Fin 4)
  have h2 := (Rect.mem_set_unit.mp hi') (0 : Fin 4)
  simp at h1 h2
  exact Fin.ext (by omega)
theorem rs_cover : (Finset.univ : Finset (Fin 3)).biUnion (fun k => (rs k).set) = Finset.univ := by
  refine Finset.eq_univ_iff_forall.mpr fun i => Finset.mem_biUnion.mpr ⟨(i (0 : Fin 4) : Fin 3), Finset.mem_univ _, Rect.mem_set_unit.mpr fun a => ?_⟩
  have := (i a).isLt
  fin_cases a <;> simp at this ⊢ <;> omega

/-- The element of slot `k`'s half `h` at an index is the slot's at the index moved to the half. -/
theorem half_emb (k : Fin 3) (h : Fin 2) (j : S2x512x1024.Idx) : (halfOf M k h).view.emb j = (slotOf M k).view.emb ((rh h).emb j) := by
  show M.view.emb ((Rect.unit (s := S3x4x512x1024) ![k.val, 2 * h.val, 0, 0] S1x2x512x1024.size (inb_half k h)).emb (Shape.reshapeEquiv _ j))
    = M.view.emb ((rs k).emb (Shape.reshapeEquiv _ ((rh h).emb j)))
  rw [show (Shape.reshapeEquiv _ j : S1x2x512x1024.Idx) = Fin.cons ⟨0, Nat.one_pos⟩ j from Shape.reshapeEquiv_cons_one _ j,
    show (Shape.reshapeEquiv _ ((rh h).emb j) : S1x4x512x1024.Idx) = Fin.cons ⟨0, Nat.one_pos⟩ ((rh h).emb j) from Shape.reshapeEquiv_cons_one _ _]
  refine congrArg _ (funext fun a => Fin.ext ?_)
  fin_cases a
  · rfl
  · show 2 * h.val + 1 * (j (0 : Fin 3)).val = 0 + 1 * (2 * h.val + 1 * (j (0 : Fin 3)).val); omega
  · show 0 + 1 * (j (1 : Fin 3)).val = 0 + 1 * (0 + 1 * (j (1 : Fin 3)).val); omega
  · show 0 + 1 * (j (2 : Fin 3)).val = 0 + 1 * (0 + 1 * (j (2 : Fin 3)).val); omega

theorem rh_disjoint (k k' : Fin 2) (h : k ≠ k') : Disjoint (rh k).set (rh k').set := by
  refine Finset.disjoint_left.mpr fun i hi hi' => h ?_
  have h1 := (Rect.mem_set_unit.mp hi) (0 : Fin 3)
  have h2 := (Rect.mem_set_unit.mp hi') (0 : Fin 3)
  simp at h1 h2
  exact Fin.ext (by omega)
theorem rh_cover : (Finset.univ : Finset (Fin 2)).biUnion (fun k => (rh k).set) = Finset.univ := by
  refine Finset.eq_univ_iff_forall.mpr fun i => Finset.mem_biUnion.mpr ?_
  have hi : (i (0 : Fin 3)).val < 4 := (i (0 : Fin 3)).isLt
  refine ⟨⟨(i (0 : Fin 3)).val / 2, by omega⟩, Finset.mem_univ _, Rect.mem_set_unit.mpr fun a => ?_⟩
  have := (i a).isLt
  fin_cases a <;> simp at this ⊢ <;> omega

/-- Half `h` of slot `k` is the slot's slice of two experts. -/
theorem owns_half (k : Fin 3) (h : Fin 2) (X : S2x512x1024.Idx → Elt F .bf16) :
    (owns (c : Thread nD τ) (halfOf M k h) q X : sProp 𝕄) = owns (c : Thread nD τ) ((slotOf M k).slice (rh h) (fun _ => rfl)) q X := by
  have hset : (halfOf M k h).view.set = ((slotOf M k).slice (rh h) (fun _ => rfl)).view.set := by
    unfold View.set
    ext i
    simp only [Finset.mem_map, Finset.mem_univ, true_and]
    constructor
    · rintro ⟨j, rfl⟩; exact ⟨j, (half_emb M k h j).symm⟩
    · rintro ⟨j, rfl⟩; exact ⟨j, half_emb M k h j⟩
  have hread (f : M.view.ty.Contents (Elt F)) : (halfOf M k h).view.read (Elt F) f = ((slotOf M k).slice (rh h) (fun _ => rfl)).view.read (Elt F) f :=
    funext fun j => congrArg (fun i => _root_.cast (congrArg (Elt F) M.view.elt_eq) (f i)) (half_emb M k h j)
  unfold owns
  refine congrArg _ (funext fun f => ?_)
  show iprop(⌜(halfOf M k h).view.read (Elt F) f = X⌝ ∗ (M.view.loc (c : Thread nD τ) ↦[(halfOf M k h).view.set]{q} f : sProp 𝕄))
    = iprop(⌜((slotOf M k).slice (rh h) (fun _ => rfl)).view.read (Elt F) f = X⌝ ∗ (M.view.loc (c : Thread nD τ) ↦[((slotOf M k).slice (rh h) (fun _ => rfl)).view.set]{q} f))
  rw [hread, hset]

/-- A slot held at a share is held half by half, and back. -/
theorem owns_halves (k : Fin 3) (X : S4x512x1024.Idx → Elt F .bf16) :
    (owns (c : Thread nD τ) (slotOf M k) q X : sProp 𝕄)
      = iprop(owns (c : Thread nD τ) (halfOf M k 0) q (half 0 X) ∗ owns (c : Thread nD τ) (halfOf M k 1) q (half 1 X)) := by
  have h₁ := owns_rects (Ix := Unit) (Name := ℕ) (U := UU) (Lvl := ℕ) (Val := Elt F) (c : Thread nD τ) (slotOf M k) q rh (fun _ _ => rfl) rh_disjoint rh_cover X
  have h₂ := owns_of_rects (Ix := Unit) (Name := ℕ) (U := UU) (Lvl := ℕ) (Val := Elt F) (c : Thread nD τ) (slotOf M k) q rh (fun _ _ => rfl) rh_disjoint rh_cover X
  rw [BI.equiv_iff.mp ⟨h₁, h₂⟩, bigSep_univ_eq_bigSepL [0, 1] (by decide) (by decide), bigSepL_cons_cons, bigSepL_singleton, owns_half, owns_half]
  rfl

/-- A ring's buffer held whole is held slot by slot. -/
theorem slots_of (X : S3x4x512x1024.Idx → Elt F .bf16) :
    (owns (c : Thread nD τ) M fullShare X : sProp 𝕄) ⊢ slots c M := by
  have hs (k : Fin 3) : (owns (c : Thread nD τ) (M.slice (rs k) (fun _ => rfl)) fullShare (fun j => X ((rs k).emb j)) : sProp 𝕄) ⊢ some' c (slotOf M k) := by
    unfold owns some'
    iintro ⟨%f, -, H⟩
    iexists ((slotOf M k).view.read (Elt F) f)
    iapply (owns_intro (c : Thread nD τ) (slotOf M k) fullShare f)
    rw [show (slotOf M k).view.set = (M.slice (rs k) (fun _ => rfl)).view.set from View.set_reshape _ _]
    iexact H
  refine (owns_rects (Ix := Unit) (Name := ℕ) (U := UU) (Lvl := ℕ) (Val := Elt F) (c : Thread nD τ) M fullShare rs (fun _ _ => rfl) rs_disjoint rs_cover X).trans ?_
  rw [bigSep_univ_eq_bigSepL [0, 1, 2] (by decide) (by decide), bigSepL_cons_cons, bigSepL_cons_cons, bigSepL_singleton]
  unfold slots
  exact BIClass.sep_mono (hs 0) (BIClass.sep_mono (hs 1) (hs 2))

/-- Its slots held at some contents make the buffer held at some. -/
theorem slots_join (f₀ : M.view.ty.Contents (Elt F)) : slots (F := F) c M ⊢ iprop(∃ f, (M.view.loc (c : Thread nD τ) ↦[M.view.set]{fullShare} f : sProp 𝕄)) := by
  have hs (k : Fin 3) : some' (F := F) c (slotOf M k) ⊢ iprop(∃ f, (M.view.loc (c : Thread nD τ) ↦[(M.view.slice (rs k)).set]{fullShare} f : sProp 𝕄)) := by
    unfold some' owns
    iintro ⟨%X, %f, -, H⟩
    iexists f
    rw [show (M.view.slice (rs k)).set = (slotOf M k).view.set from (View.set_reshape _ _).symm]
    iexact H
  have hd (k k' : Fin 3) (h : k ≠ k') : Disjoint (M.view.slice (rs k)).set (M.view.slice (rs k')).set := by
    rw [View.set_slice, View.set_slice]; exact (Finset.disjoint_map _).mpr (rs_disjoint k k' h)
  have hc : (Finset.univ : Finset (Fin 3)).biUnion (fun k => (M.view.slice (rs k)).set) = M.view.set := by
    have h : M.view.set = ((Finset.univ : Finset (Fin 3)).biUnion fun k => (rs k).set).map M.view.emb := congrArg (Finset.map M.view.emb) rs_cover.symm
    rw [h, show (fun k => (M.view.slice (rs k)).set) = fun k => (rs k).set.map M.view.emb from funext fun k => View.set_slice _ _]
    ext i; simp only [Finset.mem_biUnion, Finset.mem_map]
    exact ⟨fun ⟨k, hk, j, hj, e⟩ => ⟨j, ⟨k, hk, hj⟩, e⟩, fun ⟨j, ⟨k, hk, hj⟩, e⟩ => ⟨k, hk, j, hj, e⟩⟩
  have hj := Ring.pointsTo_sub_blocks_join_exists (Ix := Unit) (Name := ℕ) (U := UU) (Lvl := ℕ) (Val := Elt F) (ℓ := M.view.loc (c : Thread nD τ))
    (fun k => (M.view.slice (rs k)).set) hd M.view.set hc (q := fullShare) f₀
  refine BIBase.Entails.trans ?_ hj
  rw [bigSep_univ_eq_bigSepL [0, 1, 2] (by decide) (by decide), bigSepL_cons_cons, bigSepL_cons_cons, bigSepL_singleton]
  unfold slots
  exact BIClass.sep_mono (hs 0) (BIClass.sep_mono (hs 1) (hs 2))
end Slots

/-! ## Rows -/

section Rows
variable (c : Dev nD)

abbrev rrow (d : Dev nD) : Rect S8x32 := Rect.unit (s := S8x32) (k0_off2 d) S1x32.size (k0_off2_inb d)

theorem mem_rrow {d : Dev nD} {i : S8x32.Idx} : i ∈ (rrow d).set ↔ (i (0 : Fin 2)).val = d.val := by
  rw [Rect.mem_set_unit]
  constructor
  · intro h
    have := h (0 : Fin 2)
    rw [k0_off2_eq] at this
    simp at this; omega
  · intro h a
    have h1 := (i (1 : Fin 2)).isLt
    rw [k0_off2_eq]
    fin_cases a
    · simp; omega
    · simpa using h1

theorem rrow_disjoint (d d' : Dev nD) (h : d ≠ d') : Disjoint (rrow d).set (rrow d').set :=
  Finset.disjoint_left.mpr fun i hi hi' => h (Fin.ext ((mem_rrow.mp hi).symm.trans (mem_rrow.mp hi')))
theorem rrow_cover : (Finset.univ : Finset (Dev nD)).biUnion (fun d => (rrow d).set) = Finset.univ :=
  Finset.eq_univ_iff_forall.mpr fun i => Finset.mem_biUnion.mpr ⟨(⟨(i (0 : Fin 2)).val, (i (0 : Fin 2)).isLt⟩ : Dev nD), Finset.mem_univ _, mem_rrow.mpr rfl⟩

/-- The table of all devices' counts. -/
def table (Ct : Dev nD → S1x32.Idx → Elt F .i32) : S8x32.Idx → Elt F .i32 :=
  fun i => Ct ⟨(i (0 : Fin 2)).val, (i (0 : Fin 2)).isLt⟩ (ValueIdx.ix2 (0 : Fin 1) (i (1 : Fin 2)))

theorem table_row (Ct : Dev nD → S1x32.Idx → Elt F .i32) (d : Dev nD) : (fun j => table Ct ((rrow d).emb j)) = Ct d := by
  funext j
  have h0 : ((rrow d).emb j (0 : Fin 2)).val = d.val := by
    have hj : (j (0 : Fin 2)).val < 1 := (j (0 : Fin 2)).isLt
    show k0_off2 d 0 + 1 * (j (0 : Fin 2)).val = _
    rw [k0_off2_eq]; simp; omega
  have h1 : ((rrow d).emb j (1 : Fin 2)).val = (j (1 : Fin 2)).val := by
    show k0_off2 d 1 + 1 * (j (1 : Fin 2)).val = _
    rw [k0_off2_eq]; simp
  unfold table
  rw [show (⟨((rrow d).emb j (0 : Fin 2)).val, ((rrow d).emb j (0 : Fin 2)).isLt⟩ : Dev nD) = d from Fin.ext h0]
  refine congrArg (Ct d) (funext fun a => ?_)
  fin_cases a
  · exact Subsingleton.elim (α := Fin 1) _ _
  · exact Fin.ext h1

/-- The table held whole is held row by row, and back. -/
theorem owns_rows (X : S8x32.Idx → Elt F .i32) : (owns (c : Thread nD τ) cM fullShare X : sProp 𝕄)
    = bigSep Finset.univ fun d : Dev nD => owns (c : Thread nD τ) (rowOf d) fullShare (fun j => X ((rrow d).emb j)) :=
  BI.equiv_iff.mp ⟨owns_rects (Ix := Unit) (Name := ℕ) (U := UU) (Lvl := ℕ) (Val := Elt F) (c : Thread nD τ) cM fullShare rrow (fun _ _ => rfl) rrow_disjoint rrow_cover X,
    owns_of_rects (Ix := Unit) (Name := ℕ) (U := UU) (Lvl := ℕ) (Val := Elt F) (c : Thread nD τ) cM fullShare rrow (fun _ _ => rfl) rrow_disjoint rrow_cover X⟩
theorem owns_table (Ct : Dev nD → S1x32.Idx → Elt F .i32) : (owns (c : Thread nD τ) cM fullShare (table Ct) : sProp 𝕄)
    = bigSep Finset.univ fun d : Dev nD => owns (c : Thread nD τ) (rowOf d) fullShare (Ct d) := by
  rw [owns_rows]; exact bigSep_congr fun d _ => congrArg _ (table_row Ct d)
end Rows

end Cert.KernelIdeal.Moe

end
-- ==== Proof.StepsIdeal.lean ====
/-
The body's local steps as triples over what a device holds: a load, a store, a load of a ring's slot, and the
blocks of products that set or add to the output.
-/
module

public import proofs.«01_k».proof.Proof.OwnIdeal

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- What device `c` needs so that the program `p` runs and ends in `Q`. -/
abbrev WP (c : Dev nD) {α : Type} (p : P F α) (Q : α → sProp 𝕄) : sProp 𝕄 :=
  wp frame (wpE (defs₀ (F := F)) Variants.none (c : Thread nD τ) none) Set.univ p Q

section Basic
variable (c : Dev nD)

/-- A program that ends in `B`, then the rest from `B`. -/
theorem seq {α β : Type} {A : sProp 𝕄} {p : P F α} {B : α → sProp 𝕄} {k : α → P F β} {Q : β → sProp 𝕄} (h : A ⊢ WP c p B) :
    A ⊢ iprop((∀ x, B x -∗ WP c (k x) Q) -∗ WP c (p >>= k) Q) := by
  unfold WP
  rw [wp_bind]
  exact h.trans (wp_wand _ _ _)

theorem wp_done {α : Type} (x : α) (Q : α → sProp 𝕄) : Q x ⊢ WP c (pure x) Q := by
  unfold WP; iintro H; rw [wp_pure]; imodintro; iexact H

variable {sh : Shape} {e : EltTy} (M : Memref sig .tc .vmem sh e) (q : PosShare TreeShare)

/-- A load through a rectangle of a memref that is held. -/
theorem wp_ld (r : Rect sh) (hl : M.view.LoadsAt r.toLoadRect) (X : sh.Idx → Elt F e) :
    owns (c : Thread nD τ) M q X ⊢ WP c (Prog.lift (.load M r.toLoadRect hl)) fun v => iprop(⌜v = fun j => X (r.emb j)⌝ ∗ owns (c : Thread nD τ) M q X) := by
  unfold Prog.lift
  conv_lhs => unfold owns
  iintro ⟨%f, %hf, H⟩
  iapply (wp_load_rect Variants.none (c : Thread nD τ) none Set.univ (m := M) (r := r) (S := M.view.set)
    (by rw [View.set_slice]; exact Finset.map_subset_map.mpr (Finset.subset_univ _))) $$ H
  iintro H
  rw [wp_ret]; imodintro
  isplitr
  · ipureintro; subst hf; rfl
  · subst hf; iapply (owns_intro (c : Thread nD τ) M q f); iexact H

/-- A load through a rectangle whose part of the memref is held. -/
theorem wp_ldSlice (r : Rect sh) (hu : ∀ a, r.stride a = 1) (hl : M.view.LoadsAt r.toLoadRect) (X : r.shape.Idx → Elt F e) :
    owns (c : Thread nD τ) (M.slice r hu) q X ⊢ WP c (Prog.lift (.load M r.toLoadRect hl)) fun v => iprop(⌜v = X⌝ ∗ owns (c : Thread nD τ) (M.slice r hu) q X) := by
  unfold Prog.lift
  conv_lhs => unfold owns
  iintro ⟨%f, %hf, H⟩
  iapply (wp_load_rect Variants.none (c : Thread nD τ) none Set.univ (m := M) (r := r) (S := (M.slice r hu).view.set) (Finset.Subset.refl _)) $$ H
  iintro H
  rw [wp_ret]; imodintro
  isplitr
  · ipureintro; subst hf; rfl
  · subst hf; iapply (owns_intro (c : Thread nD τ) (M.slice r hu) q f); iexact H

/-- A store through a rectangle whose part of the memref is held. -/
theorem wp_st (r : Rect sh) (hu : ∀ a, r.stride a = 1) (w : r.shape.Idx → Elt F e) (hx : (M.access r).Stores Finset.univ) (hm) (X : r.shape.Idx → Elt F e) :
    owns (c : Thread nD τ) (M.slice r hu) fullShare X ⊢ WP c (Prog.lift (.store M r w Finset.univ hx hm)) fun _ => owns (c : Thread nD τ) (M.slice r hu) fullShare w := by
  unfold Prog.lift
  conv_lhs => unfold owns
  iintro ⟨%f, %hf, H⟩
  iapply (wp_store Variants.none (c : Thread nD τ) none Set.univ (m := M) (r := r) (Mk := Finset.univ) (S := (M.slice r hu).view.set) (Finset.Subset.refl _)) $$ H
  iintro H
  rw [wp_ret]; imodintro
  unfold owns
  iexists _
  isplitr
  swap; · iexact H
  ipureintro
  exact View.read_write_univ f w

/-- A load of a slot that is held. -/
theorem wp_slot (M : Memref sig .tc .vmem S3x4x512x1024 .bf16) (k : Fin 3) (X : S4x512x1024.Idx → Elt F .bf16) :
    owns (c : Thread nD τ) (slotOf M k) q X ⊢ WP c (loadSlot M k) fun v => iprop(⌜blockOf v = X⌝ ∗ owns (c : Thread nD τ) (slotOf M k) q X) := by
  unfold loadSlot Prog.lift
  conv_lhs => unfold owns
  iintro ⟨%f, %hf, H⟩
  iapply (wp_load_rect Variants.none (c : Thread nD τ) none Set.univ (m := M) (r := rs k) (S := (slotOf M k).view.set)
    (by rw [show (slotOf M k).view.set = (M.slice (rs k) (fun _ => rfl)).view.set from View.set_reshape _ _])) $$ H
  iintro H
  rw [wp_ret]; imodintro
  isplitr
  · ipureintro; subst hf; rfl
  · subst hf; iapply (owns_intro (c : Thread nD τ) (slotOf M k) q f); iexact H

end Basic

/-! ## The output, quarter by quarter -/

section Quarters
variable (c : Dev nD)

/-- The rows `o` to `o + 511` of the tokens and of the output. -/
abbrev rx (o : ℕ) (q : Quarter o) : Rect S2048x512 := Rect.unit (s := S2048x512) ![o, 0] S512x512.size q.x
abbrev ro (o : ℕ) (q : Quarter o) : Rect S2048x1024 := Rect.unit (s := S2048x1024) ![o, 0] S512x1024.size q.out

/-- A quarter's product, from all of a device's tokens. -/
def prodQ (o : ℕ) (q : Quarter o) (e : IVec S2048x1 32) (keep : IVec S2048x1 1) (or : BitVec 32) (w : FVec F S4x512x1024 .bf16)
    (X : S2048x512.Idx → Elt F .bf16) : FVec F S512x1024 .f32 :=
  contrib o q.cut e keep or w (fun j => X ((rx o q).emb j)) (fun j => X ((rx o q).emb j)) (fun j => X ((rx o q).emb j)) (fun j => X ((rx o q).emb j))

variable (o : ℕ) (q : Quarter o) (e : IVec S2048x1 32) (keep : IVec S2048x1 1) (or : BitVec 32) (w : FVec F S4x512x1024 .bf16)
  (X : S2048x512.Idx → Elt F .bf16) (p : PosShare TreeShare)

/-- A quarter of the first block. -/
theorem wp_quarterSet (Y : S512x1024.Idx → Elt F .f32) :
    iprop(owns (c : Thread nD τ) xM p X ∗ owns (c : Thread nD τ) (oM.slice (ro o q) (fun _ => rfl)) fullShare Y)
      ⊢ WP c (quarterSet o q e keep or w) fun _ => iprop(owns (c : Thread nD τ) xM p X ∗ owns (c : Thread nD τ) (oM.slice (ro o q) (fun _ => rfl)) fullShare (prodQ o q e keep or w X)) := by
  unfold quarterSet loadX loadO storeO
  iintro ⟨HX, HO⟩
  iapply (seq c (wp_ld c xM p (rx o q) _ X)) $$ HX; iintro %x0 ⟨%h0, HX⟩
  iapply (seq c (wp_ld c xM p (rx o q) _ X)) $$ HX; iintro %x1 ⟨%h1, HX⟩
  iapply (seq c (wp_ld c xM p (rx o q) _ X)) $$ HX; iintro %x2 ⟨%h2, HX⟩
  iapply (seq c (wp_ld c xM p (rx o q) _ X)) $$ HX; iintro %x3 ⟨%h3, HX⟩
  iapply (seq c (wp_ldSlice c oM fullShare (ro o q) (fun _ => rfl) _ Y)) $$ HO; iintro %y ⟨-, HO⟩
  subst h0 h1 h2 h3
  ihave HW := (wp_st c oM (ro o q) (fun _ => rfl) _ _ _ Y) $$ HO
  iapply (wp_wand _ _ _) $$ HW
  iintro %u HO
  isplitl [HX]; · iexact HX
  iexact HO

/-- A quarter of a later block. -/
theorem wp_quarterAdd (Y : S512x1024.Idx → Elt F .f32) :
    iprop(owns (c : Thread nD τ) xM p X ∗ owns (c : Thread nD τ) (oM.slice (ro o q) (fun _ => rfl)) fullShare Y)
      ⊢ WP c (quarterAdd o q e keep or w) fun _ => iprop(owns (c : Thread nD τ) xM p X ∗ owns (c : Thread nD τ) (oM.slice (ro o q) (fun _ => rfl)) fullShare
          (addf (shapeCast S512x1024 Y shapeCasts_S512x1024_S512x1024) (prodQ o q e keep or w X))) := by
  unfold quarterAdd loadX loadO storeO
  iintro ⟨HX, HO⟩
  iapply (seq c (wp_ld c xM p (rx o q) _ X)) $$ HX; iintro %x0 ⟨%h0, HX⟩
  iapply (seq c (wp_ld c xM p (rx o q) _ X)) $$ HX; iintro %x1 ⟨%h1, HX⟩
  iapply (seq c (wp_ld c xM p (rx o q) _ X)) $$ HX; iintro %x2 ⟨%h2, HX⟩
  iapply (seq c (wp_ld c xM p (rx o q) _ X)) $$ HX; iintro %x3 ⟨%h3, HX⟩
  iapply (seq c (wp_ldSlice c oM fullShare (ro o q) (fun _ => rfl) _ Y)) $$ HO; iintro %y ⟨%hy, HO⟩
  iapply (seq c (wp_ldSlice c oM fullShare (ro o q) (fun _ => rfl) _ Y)) $$ HO; iintro %y' ⟨-, HO⟩
  subst h0 h1 h2 h3 hy
  ihave HW := (wp_st c oM (ro o q) (fun _ => rfl) _ _ _ y) $$ HO
  iapply (wp_wand _ _ _) $$ HW
  iintro %u HO
  isplitl [HX]; · iexact HX
  iexact HO
end Quarters

/-! ## A block -/

section Blocks
variable (c : Dev nD)

/-- The output held by its four quarters. -/
def outs (Y : Fin 4 → S512x1024.Idx → Elt F .f32) : sProp 𝕄 :=
  iprop(owns (c : Thread nD τ) (oM.slice (ro 0 q0) (fun _ => rfl)) fullShare (Y 0) ∗ owns (c : Thread nD τ) (oM.slice (ro 512 q1) (fun _ => rfl)) fullShare (Y 1)
    ∗ owns (c : Thread nD τ) (oM.slice (ro 1024 q2) (fun _ => rfl)) fullShare (Y 2) ∗ owns (c : Thread nD τ) (oM.slice (ro 1536 q3) (fun _ => rfl)) fullShare (Y 3))

variable (e : IVec S2048x1 32) (keep : IVec S2048x1 1) (or : BitVec 32) (w : FVec F S4x512x1024 .bf16)
  (X : S2048x512.Idx → Elt F .bf16) (p : PosShare TreeShare) (Y : Fin 4 → S512x1024.Idx → Elt F .f32)

/-- The products with one origin's weights, quarter by quarter. -/
def prodB : Fin 4 → S512x1024.Idx → Elt F .f32
  | 0 => prodQ 0 q0 e keep or w X
  | 1 => prodQ 512 q1 e keep or w X
  | 2 => prodQ 1024 q2 e keep or w X
  | 3 => prodQ 1536 q3 e keep or w X
/-- Those products added to the output. -/
def addB : Fin 4 → S512x1024.Idx → Elt F .f32 :=
  fun k => addf (F := F) (shapeCast S512x1024 (Y k) shapeCasts_S512x1024_S512x1024) (prodB e keep or w X k)

/-- The first block. -/
theorem wp_blockSet : iprop(owns (c : Thread nD τ) xM p X ∗ outs c Y)
    ⊢ WP c (blockSet e keep or w) fun _ => iprop(owns (c : Thread nD τ) xM p X ∗ outs c (prodB e keep or w X)) := by
  unfold blockSet outs
  iintro ⟨HX, H0, H1, H2, H3⟩
  iapply (seq c (wp_quarterSet c 0 q0 e keep or w X p (Y 0))) $$ [HX H0]
  · isplitl [HX] <;> iassumption
  iintro %_ ⟨HX, H0⟩
  iapply (seq c (wp_quarterSet c 512 q1 e keep or w X p (Y 1))) $$ [HX H1]
  · isplitl [HX] <;> iassumption
  iintro %_ ⟨HX, H1⟩
  iapply (seq c (wp_quarterSet c 1024 q2 e keep or w X p (Y 2))) $$ [HX H2]
  · isplitl [HX] <;> iassumption
  iintro %_ ⟨HX, H2⟩
  ihave HW := (wp_quarterSet c 1536 q3 e keep or w X p (Y 3)) $$ [HX H3]
  · isplitl [HX] <;> iassumption
  iapply (wp_wand _ _ _) $$ HW
  iintro %_ ⟨HX, H3⟩
  isplitl [HX]; · iexact HX
  isplitl [H0]; · iexact H0
  isplitl [H1]; · iexact H1
  isplitl [H2]; · iexact H2
  iexact H3

/-- A later block. -/
theorem wp_blockAdd : iprop(owns (c : Thread nD τ) xM p X ∗ outs c Y)
    ⊢ WP c (blockAdd e keep or w) fun _ => iprop(owns (c : Thread nD τ) xM p X ∗ outs c (addB e keep or w X Y)) := by
  unfold blockAdd outs
  iintro ⟨HX, H0, H1, H2, H3⟩
  iapply (seq c (wp_quarterAdd c 0 q0 e keep or w X p (Y 0))) $$ [HX H0]
  · isplitl [HX] <;> iassumption
  iintro %_ ⟨HX, H0⟩
  iapply (seq c (wp_quarterAdd c 512 q1 e keep or w X p (Y 1))) $$ [HX H1]
  · isplitl [HX] <;> iassumption
  iintro %_ ⟨HX, H1⟩
  iapply (seq c (wp_quarterAdd c 1024 q2 e keep or w X p (Y 2))) $$ [HX H2]
  · isplitl [HX] <;> iassumption
  iintro %_ ⟨HX, H2⟩
  ihave HW := (wp_quarterAdd c 1536 q3 e keep or w X p (Y 3)) $$ [HX H3]
  · isplitl [HX] <;> iassumption
  iapply (wp_wand _ _ _) $$ HW
  iintro %_ ⟨HX, H3⟩
  isplitl [HX]; · iexact HX
  isplitl [H0]; · iexact H0
  isplitl [H1]; · iexact H1
  isplitl [H2]; · iexact H2
  iexact H3
end Blocks

/-! ## The output whole and quarter by quarter -/

section Glue
variable (c : Dev nD)

/-- The rows of quarter `k`. -/
def rq : Fin 4 → Rect S2048x1024
  | 0 => ro 0 q0
  | 1 => ro 512 q1
  | 2 => ro 1024 q2
  | 3 => ro 1536 q3

/-- The output from its quarters. -/
def glue {α : Type} (Y : Fin 4 → S512x1024.Idx → α) : S2048x1024.Idx → α := fun i =>
  Y ⟨(i (0 : Fin 2)).val / 512, by have := (i (0 : Fin 2)).isLt; change (i (0 : Fin 2)).val < 2048 at this; omega⟩
    (ValueIdx.ix2 (⟨(i (0 : Fin 2)).val % 512, Nat.mod_lt _ (by decide)⟩ : Fin 512) (i (1 : Fin 2)))

theorem mem_ro {o : ℕ} {q : Quarter o} {i : S2048x1024.Idx} : i ∈ (ro o q).set ↔ o ≤ (i (0 : Fin 2)).val ∧ (i (0 : Fin 2)).val < o + 512 := by
  rw [Rect.mem_set_unit]
  constructor
  · intro h; exact h (0 : Fin 2)
  · intro h a
    have h1 := (i (1 : Fin 2)).isLt
    fin_cases a
    · exact h
    · simpa using h1

theorem mem_rq {k : Fin 4} {i : S2048x1024.Idx} : i ∈ (rq k).set ↔ 512 * k.val ≤ (i (0 : Fin 2)).val ∧ (i (0 : Fin 2)).val < 512 * k.val + 512 := by
  match k with
  | 0 => exact mem_ro (q := q0)
  | 1 => exact mem_ro (q := q1)
  | 2 => exact mem_ro (q := q2)
  | 3 => exact mem_ro (q := q3)

theorem rq_stride (k : Fin 4) : ∀ a, (rq k).stride a = 1 := by
  match k with
  | 0 => exact fun _ => rfl
  | 1 => exact fun _ => rfl
  | 2 => exact fun _ => rfl
  | 3 => exact fun _ => rfl

theorem rq_disjoint (k k' : Fin 4) (h : k ≠ k') : Disjoint (rq k).set (rq k').set :=
  Finset.disjoint_left.mpr fun i hi hi' => h (Fin.ext (by have := mem_rq.mp hi; have := mem_rq.mp hi'; omega))
theorem rq_cover : (Finset.univ : Finset (Fin 4)).biUnion (fun k => (rq k).set) = Finset.univ :=
  Finset.eq_univ_iff_forall.mpr fun i => Finset.mem_biUnion.mpr
    ⟨⟨(i (0 : Fin 2)).val / 512, by have := (i (0 : Fin 2)).isLt; change (i (0 : Fin 2)).val < 2048 at this; omega⟩, Finset.mem_univ _, mem_rq.mpr (by dsimp only; omega)⟩

theorem glue_ro {α : Type} (Y : Fin 4 → S512x1024.Idx → α) (k : Fin 4) (q : Quarter (512 * k.val)) : (fun j => glue Y ((ro (512 * k.val) q).emb j)) = Y k := by
  funext j
  have hj : (j (0 : Fin 2)).val < 512 := (j (0 : Fin 2)).isLt
  have h0 : ((ro (512 * k.val) q).emb j (0 : Fin 2)).val = 512 * k.val + (j (0 : Fin 2)).val := by
    show 512 * k.val + 1 * (j (0 : Fin 2)).val = _; omega
  have h1 : ((ro (512 * k.val) q).emb j (1 : Fin 2)).val = (j (1 : Fin 2)).val := by
    show 0 + 1 * (j (1 : Fin 2)).val = _; omega
  have hd : ((ro (512 * k.val) q).emb j (0 : Fin 2)).val / 512 = k.val := by omega
  have hm : ((ro (512 * k.val) q).emb j (0 : Fin 2)).val % 512 = (j (0 : Fin 2)).val := by omega
  unfold glue
  refine congr (congrArg Y (Fin.ext hd)) (funext fun a => ?_)
  fin_cases a
  · exact Fin.ext hm
  · exact Fin.ext h1

theorem bigSep_four (f : Fin 4 → sProp 𝕄) : bigSep Finset.univ f = iprop(f 0 ∗ f 1 ∗ f 2 ∗ f 3) := by
  rw [bigSep_univ_eq_bigSepL [0, 1, 2, 3] (by decide) (by decide), bigSepL_cons_cons, bigSepL_cons_cons, bigSepL_cons_cons, bigSepL_singleton]; rfl

/-- The output held whole is held by its quarters. -/
theorem outs_of (Y : S2048x1024.Idx → Elt F .f32) : (owns (c : Thread nD τ) oM fullShare Y : sProp 𝕄) ⊢ iprop(∃ Y', outs c Y') := by
  refine (owns_rects (Ix := Unit) (Name := ℕ) (U := UU) (Lvl := ℕ) (Val := Elt F) (c : Thread nD τ) oM fullShare rq rq_stride rq_disjoint rq_cover Y).trans ?_
  rw [bigSep_four]
  iintro ⟨H0, H1, H2, H3⟩
  iexists fun
    | 0 => fun j => Y ((ro 0 q0).emb j)
    | 1 => fun j => Y ((ro 512 q1).emb j)
    | 2 => fun j => Y ((ro 1024 q2).emb j)
    | 3 => fun j => Y ((ro 1536 q3).emb j)
  unfold outs
  isplitl [H0]; · iexact H0
  isplitl [H1]; · iexact H1
  isplitl [H2]; · iexact H2
  iexact H3

/-- The quarters make up the output. -/
theorem outs_join (Y : Fin 4 → S512x1024.Idx → Elt F .f32) : outs c Y ⊢ (owns (c : Thread nD τ) oM fullShare (glue Y) : sProp 𝕄) := by
  refine BIBase.Entails.trans ?_ (owns_of_rects (Ix := Unit) (Name := ℕ) (U := UU) (Lvl := ℕ) (Val := Elt F) (c : Thread nD τ) oM fullShare rq rq_stride rq_disjoint rq_cover (glue Y))
  rw [bigSep_four]
  unfold outs
  iintro ⟨H0, H1, H2, H3⟩
  rw [← glue_ro Y 0 q0, ← glue_ro Y 1 q1, ← glue_ro Y 2 q2, ← glue_ro Y 3 q3]
  isplitl [H0]; · iexact H0
  isplitl [H1]; · iexact H1
  isplitl [H2]; · iexact H2
  iexact H3
end Glue

end Cert.KernelIdeal.Moe

end
-- ==== Proof.RulesIdeal.lean ====
/-
The body's steps that meet other devices, as triples: a signal of the barrier, the wait on it, a transfer and the
wait for one. Each pays or collects what the schedule says of its cell.
-/
module

public import proofs.«01_k».proof.Proof.StepsIdeal

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Wt : Dev nD → S4x512x1024.Idx → Elt F .bf16) (Ct : Dev nD → S1x32.Idx → Elt F .i32)
variable (K : Dev nD × Option (Fin 30) → ℕ) (c : Dev nD)

/-! ## What every device knows -/

/-- Every cell's invariant, and that it is in its first round. -/
def records : sProp 𝕄 :=
  iprop((bigSep Finset.univ fun ck : Dev nD × Option (Fin 30) => cellInv ER (sched Wt Ct) (K ck) (kcell ck))
    ∗ bigSep Finset.univ fun ck : Dev nD × Option (Fin 30) => reached ER (kcell ck) 0)
/-- The records and the cells' levels. -/
def env : sProp 𝕄 := iprop(records Wt Ct K ∗ levAts L lv)

instance records_persistent : BI.Persistent (records Wt Ct K : sProp 𝕄) := by unfold records; infer_instance
instance env_persistent : BI.Persistent (env Wt Ct K : sProp 𝕄) := by unfold env; infer_instance

theorem env_inv (ck : Dev nD × Option (Fin 30)) : env Wt Ct K ⊢ cellInv ER (sched Wt Ct) (K ck) (kcell ck) := by
  have h : (bigSep Finset.univ fun ck : Dev nD × Option (Fin 30) => (cellInv ER (sched Wt Ct) (K ck) (kcell ck) : sProp 𝕄)) ⊢ cellInv ER (sched Wt Ct) (K ck) (kcell ck) :=
    bigSep_elim (Finset.mem_univ ck)
  unfold env records
  iintro ⟨⟨H, -⟩, -⟩
  iapply h; iexact H
theorem env_reached (ck : Dev nD × Option (Fin 30)) : env Wt Ct K ⊢ reached ER (kcell ck) 0 := by
  have h : (bigSep Finset.univ fun ck : Dev nD × Option (Fin 30) => (reached ER (kcell ck) 0 : sProp 𝕄)) ⊢ reached ER (kcell ck) 0 :=
    bigSep_elim (Finset.mem_univ ck)
  unfold env records
  iintro ⟨⟨-, H⟩, -⟩
  iapply h; iexact H
theorem env_lev : env Wt Ct K ⊢ (levAts L lv : sProp 𝕄) := by
  unfold env; iintro ⟨-, H⟩; iexact H

/-- What device `c` still owes: the payments of `l`. -/
def Owes (l : List (Option (Fin 30) × ℕ)) : sProp 𝕄 := iprop(∃ W, owes (c : Thread nD τ) (owe c l) W)

/-! ## The steps -/

/-- The signal of the barrier of the device `J` places to the right. -/
theorem wp_sig (J : Fin 8) (hJ : J ≠ 0) (p : Dev nD) (hp : p = up c J.val) (l : List (Option (Fin 30) × ℕ)) :
    iprop(env Wt Ct K ∗ barPay p J ∗ Owes c ((none, J.val) :: l) ∗ dutyTok ER (barCell p) 0 J)
      ⊢ WP c (semSignalWord p barS 1#32) fun _ => Owes (F := F) c l := by
  unfold Owes semSignalWord
  iintro ⟨#He, Hp, ⟨%W, HO⟩, Ht⟩
  iapply (Rounds.wp_signal Variants.none ER (sched Wt Ct) (c : Thread nD τ) none (dst := (p : Thread nD τ)) (κ := K (p, none)) (d := J)
    (by rw [duties_bar]; exact Finset.mem_erase.mpr ⟨hJ, Finset.mem_univ _⟩) ((amount_bar Wt Ct p J).trans (by decide)) () (owe c l) (by subst hp; rfl)) $$ [Hp HO Ht]
  · isplitr; · iapply (env_inv Wt Ct K (p, none)); iexact He
    isplitl [HO]; · iexact HO
    isplitl [Ht]; · iexact Ht
    isplitl [Hp]; · rw [payload_bar]; iexact Hp
    iapply (env_reached Wt Ct K (p, none)); iexact He
  iintro HO
  rw [wp_ret]; imodintro
  iexists W; iexact HO

/-- The wait on the barrier: the other devices' rows and the neighbours' buffers. -/
theorem wp_bar (l : List (Option (Fin 30) × ℕ)) (hl : ∀ x ∈ l, 1 < lvl x.1) :
    iprop(env Wt Ct K ∗ cred (tallyAt (barCell c) () 7) ∗ Owes c l ∗ atPos ER (barCell c) 0 ∅ 0)
      ⊢ WP c (semWaitWord barS 7#32) fun _ => iprop(Owes (F := F) c l ∗ atPos ER (barCell c) 1 ∅ 0
          ∗ barPay c 1 ∗ barPay c 2 ∗ barPay c 3 ∗ barPay c 4 ∗ barPay c 5 ∗ barPay c 6 ∗ barPay c 7) := by
  unfold Owes semWaitWord
  iintro ⟨#He, Hc, ⟨%W, HO⟩, Ha⟩
  iapply (Rounds.wp_wait_rest_token Variants.none ER (sched Wt Ct) (c : Thread nD τ) none (κ := K (c, none))
      (wpE_semWait_eq Variants.none (c : Thread nD τ) none Set.univ) (Set.mem_univ _) () (O := owe c l) (W := W) (R := 0) (m := 0) (T := ∅)
      (by rw [expect_bar]; decide)) $$ [Hc HO Ha]
  · isplitr; · iapply (env_inv Wt Ct K (c, none)); iexact He
    isplitl [Hc]; · iexact Hc
    isplitl [HO]; · iexact HO
    isplitr; · iapply (mayWait c (.reg barS) 1 (Nat.le_of_eq (lv_kcell c none ())) l hl); iapply (env_lev Wt Ct K); iexact He
    iexact Ha
  iintro ⟨HO, Ha, -, Hp⟩
  ihave Hp := (Entails.of_eq (rest_bar Wt Ct c)) $$ Hp
  rw [wp_ret]; imodintro
  isplitl [HO]; · iexists _; iexact HO
  isplitl [Ha]; · iexact Ha
  iexact Hp

variable {s : Shape} {e : EltTy} (src dst : Memref sig .tc .vmem s e) (hs : src.view.WordExact) (hd : dst.view.WordExact)

/-- What a wait for transfer `i` spends: its units and the cell's first round. -/
def ready (i : Fin 30) : sProp 𝕄 := iprop(cred (tallyAt (dCell c i) () (amt i)) ∗ atPos ER (dCell c i) 0 ∅ 0)
/-- Transfer `i`'s cell when its round is over. -/
def over (i : Fin 30) : sProp 𝕄 := atPos ER (dCell c i) 1 ∅ 0

/-- The wait for a transfer. -/
theorem wp_wait (i : Fin 30) (hN : dst.view.dmaCredit = amt i) (l : List (Option (Fin 30) × ℕ)) (hl : ∀ x ∈ l, lvl (some i) < lvl x.1) :
    iprop(env Wt Ct K ∗ ready c i ∗ Owes c l)
      ⊢ WP c (waitFor i src dst hs hd) fun _ => iprop(Owes (F := F) c l ∗ over c i ∗ dmaPay Wt Ct c i) := by
  unfold Owes waitFor Prog.lift ready over
  iintro ⟨#He, ⟨Hc, Ha⟩, ⟨%W, HO⟩⟩
  rw [← hN]
  iapply (Rounds.wp_wait_rest_token Variants.none ER (sched Wt Ct) (c : Thread nD τ) none (κ := K (c, some i))
      (wpE_waitDma2_eq Variants.none (c : Thread nD τ) none Set.univ) (Set.mem_univ _) () (O := owe c l) (W := W) (R := 0) (m := 0) (T := ∅)
      (by rw [expect_dma, Nat.zero_add, hN])) $$ [Hc HO Ha]
  · isplitr; · iapply (env_inv Wt Ct K (c, some i)); iexact He
    isplitl [Hc]; · iexact Hc
    isplitl [HO]; · iexact HO
    isplitr; · iapply (mayWait c (.dma (dsem i)) _ (Nat.le_of_eq (lv_kcell c (some i) ())) l hl); iapply (env_lev Wt Ct K); iexact He
    iexact Ha
  iintro ⟨HO, Ha, -, Hp⟩
  ihave Hp := (Entails.of_eq (rest_dma Wt Ct c i)) $$ Hp
  rw [wp_ret]; imodintro
  isplitl [HO]; · iexists _; iexact HO
  isplitl [Ha]; · iexact Ha
  iexact Hp

/-- A transfer of `src`'s contents to the device `k` places to the right, `R` handed over with it. -/
theorem wp_copy_with (ss rs : Fin 30) (k : ℕ) (p : Dev nD) (hp : p = up c k) (q : PosShare TreeShare) (X : s.Idx → Elt F e) (R : sProp 𝕄)
    (l : List (Option (Fin 30) × ℕ)) (hN : dst.view.dmaCredit = amt rs) (hN' : amt ss = amt rs)
    (h₁ : (owns (c : Thread nD τ) src q X : sProp 𝕄) ⊢ dmaPay Wt Ct c ss)
    (h₂ : iprop(owns (p : Thread nD τ) dst fullShare X ∗ R) ⊢ dmaPay Wt Ct p rs) :
    iprop(env Wt Ct K ∗ owns (c : Thread nD τ) src q X ∗ (some' p dst ∗ R) ∗ Owes c ((some rs, k) :: l)
        ∗ (dutyTok ER (dCell c ss) 0 0 ∗ atPos ER (dCell c ss) 0 ∅ 0) ∗ dutyTok ER (dCell p rs) 0 0)
      ⊢ WP c (copyTo src dst hs hd p ss rs) fun _ => iprop(Owes (F := F) c l ∗ ready c ss) := by
  unfold Owes copyTo Prog.lift some' ready
  conv_lhs => unfold owns
  iintro ⟨#He, ⟨%fs, %hfs, Hs⟩, ⟨⟨%Y, %fd, -, Hd⟩, HR⟩, ⟨%W, HO⟩, ⟨Ht, Ha⟩, Ht'⟩
  iapply (Rounds.wp_send_pointsTo_with Variants.none ER (sched Wt Ct) (c : Thread nD τ) none (κ₁ := K (c, some ss)) (κ₂ := K (p, some rs))
      (c' := (p : Thread nD τ)) (sS := .dma (dsem ss)) (sem := .dma (dsem rs)) (src := src) (dst := dst) (r₁ := 0) (r₂ := 0) (d₁ := 0) (d₂ := 0) (F := R) (fs := fs) (fd := fd) (q := q)
      (by rw [duties_dma]; exact Finset.mem_singleton_self _) (by rw [duties_dma]; exact Finset.mem_singleton_self _) () () (amt rs)
      hN ((amount_dma Wt Ct c ss 0).trans hN') (amount_dma Wt Ct p rs 0) (owe c l) (by subst hp; rfl) (W := W)
      (by rw [payload_dma]; refine BIBase.Entails.trans ?_ h₁; rw [← hfs]; exact owns_intro (c : Thread nD τ) src q fs)
      (by
        rw [payload_dma]; refine BIBase.Entails.trans (BIClass.sep_mono ?_ .rfl) h₂
        refine (owns_intro (p : Thread nD τ) dst fullShare _).trans ?_
        rw [View.read_write_univ, hfs])) $$ [Hs Hd HR HO Ht Ht']
  · isplitr; · iapply (env_inv Wt Ct K (c, some ss)); iexact He
    isplitr; · iapply (env_inv Wt Ct K (p, some rs)); iexact He
    isplitl [Hs]; · iexact Hs
    isplitl [Hd HR]
    · isplitl [Hd]; · iexact Hd
      iexact HR
    isplitl [HO]; · iexact HO
    isplitl [Ht]; · iexact Ht
    isplitr; · iapply (env_reached Wt Ct K (c, some ss)); iexact He
    isplitl [Ht']; · iexact Ht'
    iapply (env_reached Wt Ct K (p, some rs)); iexact He
  iintro ⟨Hc, HO⟩
  rw [wp_ret]; imodintro
  isplitl [HO]; · iexists _; iexact HO
  rw [hN']
  isplitl [Hc]; · iexact Hc
  iexact Ha

/-- A transfer with nothing handed over but its contents. -/
theorem wp_copy (ss rs : Fin 30) (k : ℕ) (p : Dev nD) (hp : p = up c k) (q : PosShare TreeShare) (X : s.Idx → Elt F e)
    (l : List (Option (Fin 30) × ℕ)) (hN : dst.view.dmaCredit = amt rs) (hN' : amt ss = amt rs)
    (h₁ : (owns (c : Thread nD τ) src q X : sProp 𝕄) ⊢ dmaPay Wt Ct c ss)
    (h₂ : owns (p : Thread nD τ) dst fullShare X ⊢ dmaPay Wt Ct p rs) :
    iprop(env Wt Ct K ∗ owns (c : Thread nD τ) src q X ∗ some' p dst ∗ Owes c ((some rs, k) :: l)
        ∗ (dutyTok ER (dCell c ss) 0 0 ∗ atPos ER (dCell c ss) 0 ∅ 0) ∗ dutyTok ER (dCell p rs) 0 0)
      ⊢ WP c (copyTo src dst hs hd p ss rs) fun _ => iprop(Owes (F := F) c l ∗ ready c ss) := by
  refine BIBase.Entails.trans ?_ (wp_copy_with Wt Ct K c src dst hs hd ss rs k p hp q X iprop(emp) l hN hN' h₁ ?_)
  · iintro ⟨#He, Hs, Hd, HO, Ht, Ht'⟩
    isplitr; · iexact He
    isplitl [Hs]; · iexact Hs
    isplitl [Hd]
    · isplitl [Hd]; · iexact Hd
      iempintro
    isplitl [HO]; · iexact HO
    isplitl [Ht]; · iexact Ht
    iexact Ht'
  · iintro ⟨H, -⟩; iapply h₂; iexact H

end Cert.KernelIdeal.Moe

end
-- ==== Proof.CountsIdeal.lean ====
/-
The entry barrier and the exchange of the counts: each device signals the seven others with its row of the table
for them, and each sends its own counts to all.
-/
module

public import proofs.«01_k».proof.Proof.RulesIdeal

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

/-! ## The printed devices -/

theorem dev1 (d : Dev nD) : (⟨k0_dev1 d, k0_dev1_lt d⟩ : Dev nD) = up d 1 := Fin.ext (k0_dev1_eq d)
theorem dev2 (d : Dev nD) : (⟨k0_dev2 d, k0_dev2_lt d⟩ : Dev nD) = up d 2 := Fin.ext (k0_dev2_eq d)
theorem dev3 (d : Dev nD) : (⟨k0_dev3 d, k0_dev3_lt d⟩ : Dev nD) = up d 3 := Fin.ext (k0_dev3_eq d)
theorem dev4 (d : Dev nD) : (⟨k0_dev4 d, k0_dev4_lt d⟩ : Dev nD) = up d 4 := Fin.ext (k0_dev4_eq d)
theorem dev5 (d : Dev nD) : (⟨k0_dev5 d, k0_dev5_lt d⟩ : Dev nD) = up d 5 := Fin.ext (k0_dev5_eq d)
theorem dev6 (d : Dev nD) : (⟨k0_dev6 d, k0_dev6_lt d⟩ : Dev nD) = up d 6 := Fin.ext (k0_dev6_eq d)
theorem dev7 (d : Dev nD) : (⟨k0_dev7 d, k0_dev7_lt d⟩ : Dev nD) = up d 7 := Fin.ext (k0_dev7_eq d)
theorem dev8 (d : Dev nD) : (⟨k0_dev8 d, k0_dev8_lt d⟩ : Dev nD) = up d 1 := Fin.ext (k0_dev8_eq d)
theorem dev9 (d : Dev nD) : (⟨k0_dev9 d, k0_dev9_lt d⟩ : Dev nD) = up d 2 := Fin.ext (k0_dev9_eq d)
theorem dev10 (d : Dev nD) : (⟨k0_dev10 d, k0_dev10_lt d⟩ : Dev nD) = up d 3 := Fin.ext (k0_dev10_eq d)
theorem dev11 (d : Dev nD) : (⟨k0_dev11 d, k0_dev11_lt d⟩ : Dev nD) = up d 4 := Fin.ext (k0_dev11_eq d)
theorem dev12 (d : Dev nD) : (⟨k0_dev12 d, k0_dev12_lt d⟩ : Dev nD) = up d 5 := Fin.ext (k0_dev12_eq d)
theorem dev13 (d : Dev nD) : (⟨k0_dev13 d, k0_dev13_lt d⟩ : Dev nD) = up d 6 := Fin.ext (k0_dev13_eq d)
theorem dev14 (d : Dev nD) : (⟨k0_dev14 d, k0_dev14_lt d⟩ : Dev nD) = up d 7 := Fin.ext (k0_dev14_eq d)

/-! ## Seven of a kind -/

/-- One of each for the seven other devices. -/
def each (f : ℕ → sProp 𝕄) : sProp 𝕄 := iprop(f 1 ∗ f 2 ∗ f 3 ∗ f 4 ∗ f 5 ∗ f 6 ∗ f 7)

/-- The devices counted from `c` on. -/
def around (c : Dev nD) : Fin 8 ≃ Dev nD where
  toFun J := up c J.val
  invFun p := ⟨(p.val + 8 - c.val) % 8, Nat.mod_lt _ (by decide)⟩
  left_inv J := by
    have := c.isLt; have := J.isLt; change c.val < 8 at *
    refine Fin.ext ?_
    show ((c.val + J.val) % 8 + 8 - c.val) % 8 = J.val; omega
  right_inv p := by
    have := c.isLt; have := p.isLt; change c.val < 8 at *; change p.val < 8 at *
    refine Fin.ext ?_
    show (c.val + (p.val + 8 - c.val) % 8) % 8 = p.val; omega

/-- Something for every device is one for `c` and one for each of the others. -/
theorem bigSep_around (c : Dev nD) (f : Dev nD → sProp 𝕄) : bigSep Finset.univ f = iprop(f c ∗ each fun J => f (up c J)) := by
  rw [bigSep_univ_equiv (around c), bigSep_univ_eq_bigSepL [0, 1, 2, 3, 4, 5, 6, 7] (by decide) (by decide)]
  simp only [bigSepL_cons_cons, bigSepL_singleton]
  unfold each
  show iprop(f (up c 0) ∗ f (up c 1) ∗ f (up c 2) ∗ f (up c 3) ∗ f (up c 4) ∗ f (up c 5) ∗ f (up c 6) ∗ f (up c 7)) = _
  rw [up_zero]

/-! ## The entry -/

section Enter
variable (Wt : Dev nD → S4x512x1024.Idx → Elt F .bf16) (Ct : Dev nD → S1x32.Idx → Elt F .i32)
variable (K : Dev nD × Option (Fin 30) → ℕ) (c : Dev nD)

theorem barPay_mid (s : Fin 8) (h1 : s ≠ 1) (h7 : s ≠ 7) : barPay (F := F) c s = iprop(some' (up c (8 - s.val)) (rowOf c) ∗ emp ∗ emp) := by
  unfold barPay; rw [if_neg h1, if_neg h7]
theorem barPay_one : barPay (F := F) c 1 = iprop(some' (up c 7) (rowOf c) ∗ emp ∗ slots (up c 7) lM) := by
  unfold barPay; rw [if_neg (by decide), if_pos rfl]; rfl
theorem barPay_seven : barPay (F := F) c 7 = iprop(some' (up c 1) (rowOf c) ∗ slots (up c 1) rM ∗ emp) := by
  unfold barPay; rw [if_pos rfl, if_neg (by decide)]; rfl

/-- The row for a device that isn't a neighbour is what the signal hands over. -/
theorem pay_mid (s : Fin 8) (h1 : s ≠ 1) (h7 : s ≠ 7) : some' (F := F) c (rowOf (up c s.val)) ⊢ barPay (up c s.val) s := by
  rw [barPay_mid _ s h1 h7, up_up, show s.val + (8 - s.val) = 8 by have := s.isLt; omega, up_eight]
  iintro H
  isplitl [H]; · iexact H
  isplitr <;> iempintro
theorem pay_one : iprop(some' (F := F) c (rowOf (up c 1)) ∗ slots c lM) ⊢ barPay (up c 1) 1 := by
  rw [barPay_one, up_up, up_eight]
  iintro ⟨H, H'⟩
  isplitl [H]; · iexact H
  isplitr; · iempintro
  iexact H'
theorem pay_seven : iprop(some' (F := F) c (rowOf (up c 7)) ∗ slots c rM) ⊢ barPay (up c 7) 7 := by
  rw [barPay_seven, up_up, up_eight]
  iintro ⟨H, H'⟩
  isplitl [H]; · iexact H
  isplitl; · iexact H'
  iempintro

theorem owns_row1 (q : PosShare TreeShare) (X : S1x32.Idx → Elt F .i32) :
    (owns (c : Thread nD τ) (cM.slice (Rect.unit (s := S8x32) (k0_off1 c) S1x32.size (k0_off1_inb c)) (fun _ => rfl)) q X : sProp 𝕄) = owns (c : Thread nD τ) (rowOf c) q X := by
  have key (o : Fin 2 → ℕ) (ho) (h : o = k0_off2 c) : (owns (c : Thread nD τ) (cM.slice (Rect.unit (s := S8x32) o S1x32.size ho) (fun _ => rfl)) q X : sProp 𝕄) = owns (c : Thread nD τ) (rowOf c) q X := by
    subst h; rfl
  exact key _ _ ((k0_off1_eq c).trans (k0_off2_eq c).symm)

/-- The token of the signal to the device `J` places to the right. -/
def sigTok (J : ℕ) : sProp 𝕄 := dutyTok ER (barCell (up c J)) 0 (Fin.ofNat 8 J)

/-- The entry: this device's counts in its row, its other rows and its rings' buffers given away, and the other
    devices' rows for its counts and the neighbours' buffers received. -/
theorem wp_enter (e : Vec F S2048x1 .i32) (T : S8x32.Idx → Elt F .i32) :
    iprop(env Wt Ct K ∗ owns (c : Thread nD τ) cM fullShare T ∗ slots c rM ∗ slots c lM ∗ Owes c plan ∗ each (sigTok c)
        ∗ cred (tallyAt (barCell c) () 7) ∗ atPos ER (barCell c) 0 ∅ 0)
      ⊢ WP c (enter c e) fun _ => iprop(Owes (F := F) c (plan.drop 7) ∗ atPos ER (barCell c) 1 ∅ 0 ∗ owns (c : Thread nD τ) (rowOf c) fullShare (k0_pay4 e)
          ∗ each (fun J => some' (up c J) (rowOf c)) ∗ slots (up c 1) rM ∗ slots (up c 7) lM) := by
  unfold enter
  rw [dev1, dev2, dev3, dev4, dev5, dev6, dev7, owns_rows c T, bigSep_around c]
  unfold each sigTok
  iintro ⟨#He, ⟨R0, R1, R2, R3, R4, R5, R6, R7⟩, Hr, Hl, HO, ⟨T1, T2, T3, T4, T5, T6, T7⟩, Hc, Ha⟩
  ihave R0 := (Entails.of_eq (owns_row1 c _ _).symm) $$ R0
  iapply (seq c (wp_ldSlice c cM fullShare (Rect.unit (s := S8x32) (k0_off1 c) S1x32.size (k0_off1_inb c)) (fun _ => rfl) _ _)) $$ R0
  iintro %_ ⟨-, R0⟩
  iapply (seq c (wp_st c cM (Rect.unit (s := S8x32) (k0_off1 c) S1x32.size (k0_off1_inb c)) (fun _ => rfl) _ _ _ _)) $$ R0
  iintro %_ R0
  iapply (seq c (wp_sig Wt Ct K c 1 (by decide) (up c 1) rfl (plan.drop 1))) $$ [R1 Hl HO T1]
  · isplitr; · iexact He
    isplitl [R1 Hl]
    · iapply (pay_one c)
      isplitl [R1]; · iapply (some'_intro c); iexact R1
      iexact Hl
    isplitl [HO]; · iexact HO
    iexact T1
  iintro %_ HO
  iapply (seq c (wp_sig Wt Ct K c 2 (by decide) (up c 2) rfl (plan.drop 2))) $$ [R2 HO T2]
  · isplitr; · iexact He
    isplitl [R2]; · iapply (pay_mid c 2 (by decide) (by decide)); iapply (some'_intro c); iexact R2
    isplitl [HO]; · iexact HO
    iexact T2
  iintro %_ HO
  iapply (seq c (wp_sig Wt Ct K c 3 (by decide) (up c 3) rfl (plan.drop 3))) $$ [R3 HO T3]
  · isplitr; · iexact He
    isplitl [R3]; · iapply (pay_mid c 3 (by decide) (by decide)); iapply (some'_intro c); iexact R3
    isplitl [HO]; · iexact HO
    iexact T3
  iintro %_ HO
  iapply (seq c (wp_sig Wt Ct K c 4 (by decide) (up c 4) rfl (plan.drop 4))) $$ [R4 HO T4]
  · isplitr; · iexact He
    isplitl [R4]; · iapply (pay_mid c 4 (by decide) (by decide)); iapply (some'_intro c); iexact R4
    isplitl [HO]; · iexact HO
    iexact T4
  iintro %_ HO
  iapply (seq c (wp_sig Wt Ct K c 5 (by decide) (up c 5) rfl (plan.drop 5))) $$ [R5 HO T5]
  · isplitr; · iexact He
    isplitl [R5]; · iapply (pay_mid c 5 (by decide) (by decide)); iapply (some'_intro c); iexact R5
    isplitl [HO]; · iexact HO
    iexact T5
  iintro %_ HO
  iapply (seq c (wp_sig Wt Ct K c 6 (by decide) (up c 6) rfl (plan.drop 6))) $$ [R6 HO T6]
  · isplitr; · iexact He
    isplitl [R6]; · iapply (pay_mid c 6 (by decide) (by decide)); iapply (some'_intro c); iexact R6
    isplitl [HO]; · iexact HO
    iexact T6
  iintro %_ HO
  iapply (seq c (wp_sig Wt Ct K c 7 (by decide) (up c 7) rfl (plan.drop 7))) $$ [R7 Hr HO T7]
  · isplitr; · iexact He
    isplitl [R7 Hr]
    · iapply (pay_seven c)
      isplitl [R7]; · iapply (some'_intro c); iexact R7
      iexact Hr
    isplitl [HO]; · iexact HO
    iexact T7
  iintro %_ HO
  ihave HW := (wp_bar Wt Ct K c (plan.drop 7) (by decide)) $$ [Hc HO Ha]
  · isplitr; · iexact He
    isplitl [Hc]; · iexact Hc
    isplitl [HO]; · iexact HO
    iexact Ha
  iapply (wp_wand _ _ _) $$ HW
  rw [barPay_one, barPay_seven, barPay_mid c 2 (by decide) (by decide), barPay_mid c 3 (by decide) (by decide), barPay_mid c 4 (by decide) (by decide),
    barPay_mid c 5 (by decide) (by decide), barPay_mid c 6 (by decide) (by decide)]
  iintro %_ ⟨HO, Ha, ⟨R1, -, Hl⟩, ⟨R2, -, -⟩, ⟨R3, -, -⟩, ⟨R4, -, -⟩, ⟨R5, -, -⟩, ⟨R6, -, -⟩, ⟨R7, Hr, -⟩⟩
  isplitl [HO]; · iexact HO
  isplitl [Ha]; · iexact Ha
  isplitl [R0]; · iapply (Entails.of_eq (owns_row1 c _ _)); iexact R0
  isplitl [R1 R2 R3 R4 R5 R6 R7]
  · isplitl [R7]; · iexact R7
    isplitl [R6]; · iexact R6
    isplitl [R5]; · iexact R5
    isplitl [R4]; · iexact R4
    isplitl [R3]; · iexact R3
    isplitl [R2]; · iexact R2
    iexact R1
  isplitl [Hr]; · iexact Hr
  iexact Hl
end Enter

/-! ## The exchange -/

section Exchange
variable (Wt : Dev nD → S4x512x1024.Idx → Elt F .bf16) (Ct : Dev nD → S1x32.Idx → Elt F .i32)
variable (K : Dev nD × Option (Fin 30) → ℕ) (c : Dev nD)

/-- What a send of transfer `i` spends on its own cell, and what it spends on the cell of the device `k` places on. -/
def sendTok (i : Fin 30) : sProp 𝕄 := iprop(dutyTok ER (dCell c i) 0 0 ∗ atPos ER (dCell c i) 0 ∅ 0)
def recvTok (k : ℕ) (i : Fin 30) : sProp 𝕄 := dutyTok ER (dCell (up c k) i) 0 0

/-- The semaphores of the counts' transfer over `J` places. -/
abbrev cs (J : ℕ) : Fin 30 := Fin.ofNat 30 (15 + J)
abbrev cr (J : ℕ) : Fin 30 := Fin.ofNat 30 (22 + J)

theorem dmaPay_cs (J : ℕ) (h1 : 1 ≤ J) (h7 : J ≤ 7) : dmaPay Wt Ct c (cs J) = owns (c : Thread nD τ) (rowOf c) (leaf 3 fullShare ⟨J - 1, by omega⟩) (Ct c) := by
  have hv : (cs J).val = 15 + J := Nat.mod_eq_of_lt (by omega)
  unfold dmaPay
  rw [if_neg (by omega), dif_pos (by omega)]
  congr 2
  exact Fin.ext (by show (cs J).val - 16 = J - 1; omega)
theorem dmaPay_cr (J : ℕ) (h1 : 1 ≤ J) (h7 : J ≤ 7) : dmaPay Wt Ct c (cr J) = owns (c : Thread nD τ) (rowOf (up c (8 - J))) fullShare (Ct (up c (8 - J))) := by
  have hv : (cr J).val = 22 + J := Nat.mod_eq_of_lt (by omega)
  unfold dmaPay
  rw [if_neg (by omega), dif_neg (by omega), show 30 - (cr J).val = 8 - J by omega]

theorem amt_cs (J : ℕ) (h1 : 1 ≤ J) (h7 : J ≤ 7) : amt (cs J) = NR := by
  have hv : (cs J).val = 15 + J := Nat.mod_eq_of_lt (by omega)
  unfold amt; rw [if_neg (by omega)]
theorem amt_cr (J : ℕ) (h1 : 1 ≤ J) (h7 : J ≤ 7) : amt (cr J) = NR := by
  have hv : (cr J).val = 22 + J := Nat.mod_eq_of_lt (by omega)
  unfold amt; rw [if_neg (by omega)]
theorem credit_row (d : Dev nD) : (rowOf d).view.dmaCredit = NR := rfl

/-- This device's counts to the device `J` places on. -/
theorem wp_sendRow (J : ℕ) (h1 : 1 ≤ J) (h7 : J ≤ 7) (l : List (Option (Fin 30) × ℕ)) :
    iprop(env Wt Ct K ∗ owns (c : Thread nD τ) (rowOf c) (leaf 3 fullShare ⟨J - 1, by omega⟩) (Ct c) ∗ some' (up c J) (rowOf c) ∗ Owes c ((some (cr J), J) :: l)
        ∗ sendTok c (cs J) ∗ recvTok c J (cr J))
      ⊢ WP c (sendRow c (up c J) (cs J) (cr J)) fun _ => iprop(Owes (F := F) c l ∗ ready c (cs J)) := by
  unfold sendTok recvTok sendRow
  refine wp_copy Wt Ct K c (rowOf c) (rowOf c) _ _ (cs J) (cr J) J (up c J) rfl _ (Ct c) l ((credit_row c).trans (amt_cr J h1 h7).symm)
    ((amt_cs J h1 h7).trans (amt_cr J h1 h7).symm) (Entails.of_eq (dmaPay_cs Wt Ct c J h1 h7).symm) ?_
  rw [dmaPay_cr Wt Ct (up c J) J h1 h7, up_up, Nat.add_sub_cancel' (by omega), up_eight]

/-- The waits for this device's send over `J` places and for the counts from as many places to the left. -/
theorem wp_waitRow (J : ℕ) (h1 : 1 ≤ J) (h7 : J ≤ 7) (l : List (Option (Fin 30) × ℕ)) (hl : ∀ x ∈ l, 2 < lvl x.1) :
    iprop(env Wt Ct K ∗ ready c (cs J) ∗ ready c (cr J) ∗ Owes c l)
      ⊢ WP c (waitRow c (cs J) (cr J)) fun _ => iprop(Owes (F := F) c l ∗ (over c (cs J) ∗ over c (cr J))
          ∗ owns (c : Thread nD τ) (rowOf c) (leaf 3 fullShare ⟨J - 1, by omega⟩) (Ct c) ∗ owns (c : Thread nD τ) (rowOf (up c (8 - J))) fullShare (Ct (up c (8 - J)))) := by
  have hs : (cs J).val = 15 + J := Nat.mod_eq_of_lt (by omega)
  have hr : (cr J).val = 22 + J := Nat.mod_eq_of_lt (by omega)
  have ls : lvl (some (cs J)) = 0 := by
    unfold lvl; dsimp only; rw [if_neg (by omega), if_neg (by omega), if_neg (by omega), if_neg (by omega), if_neg (by omega)]
  have lr : lvl (some (cr J)) = 2 := by unfold lvl; dsimp only; rw [if_pos (by omega)]
  unfold waitRow
  iintro ⟨#He, Hs, Hr, HO⟩
  iapply (seq c (wp_wait Wt Ct K c (rowOf c) (rowOf c) _ _ (cs J) ((credit_row c).trans (amt_cs J h1 h7).symm) l
    (fun x hx => by rw [ls]; have := hl x hx; omega))) $$ [Hs HO]
  · isplitr; · iexact He
    isplitl [Hs]; · iexact Hs
    iexact HO
  iintro %_ ⟨HO, Os, Ps⟩
  ihave HW := (wp_wait Wt Ct K c (rowOf c) (rowOf c) (View.wordExact_bits rfl) (View.wordExact_bits rfl) (cr J) ((credit_row c).trans (amt_cr J h1 h7).symm) l (fun x hx => by rw [lr]; exact hl x hx)) $$ [Hr HO]
  · isplitr; · iexact He
    isplitl [Hr]; · iexact Hr
    iexact HO
  iapply (wp_wand _ _ _) $$ HW
  iintro %_ ⟨HO, Or, Pr⟩
  ihave Ps := (Entails.of_eq (dmaPay_cs Wt Ct c J h1 h7)) $$ Ps
  ihave Pr := (Entails.of_eq (dmaPay_cr Wt Ct c J h1 h7)) $$ Pr
  isplitl [HO]; · iexact HO
  isplitl [Os Or]
  · isplitl [Os]; · iexact Os
    iexact Or
  isplitl [Ps]; · iexact Ps
  iexact Pr

theorem bigSep_fin8 (f : Fin 8 → sProp 𝕄) : bigSep Finset.univ f = iprop(f 0 ∗ f 1 ∗ f 2 ∗ f 3 ∗ f 4 ∗ f 5 ∗ f 6 ∗ f 7) := by
  rw [bigSep_univ_eq_bigSepL [0, 1, 2, 3, 4, 5, 6, 7] (by decide) (by decide)]
  simp only [bigSepL_cons_cons, bigSepL_singleton]; rfl

/-- A row held whole is held at the eight leaves of its share. -/
theorem row_leaves (d : Dev nD) (X : S1x32.Idx → Elt F .i32) (lf : Fin 8 → PosShare TreeShare) (hlf : lf = leaf 3 fullShare) :
    (owns (c : Thread nD τ) (rowOf d) fullShare X : sProp 𝕄) = iprop(owns (c : Thread nD τ) (rowOf d) (lf 0) X
      ∗ owns (c : Thread nD τ) (rowOf d) (lf 1) X ∗ owns (c : Thread nD τ) (rowOf d) (lf 2) X
      ∗ owns (c : Thread nD τ) (rowOf d) (lf 3) X ∗ owns (c : Thread nD τ) (rowOf d) (lf 4) X
      ∗ owns (c : Thread nD τ) (rowOf d) (lf 5) X ∗ owns (c : Thread nD τ) (rowOf d) (lf 6) X
      ∗ owns (c : Thread nD τ) (rowOf d) (lf 7) X) := by
  subst hlf
  rw [owns_leaves]
  exact bigSep_fin8 fun i : Fin 8 => owns (c : Thread nD τ) (rowOf d) (leaf 3 fullShare i) X

/-- The exchange: the whole table of counts. -/
theorem wp_exchange :
    iprop(env Wt Ct K ∗ owns (c : Thread nD τ) (rowOf c) fullShare (Ct c) ∗ each (fun J => some' (up c J) (rowOf c)) ∗ Owes c (plan.drop 7)
        ∗ each (fun J => sendTok c (cs J)) ∗ each (fun J => recvTok c J (cr J)) ∗ each (fun J => ready c (cr J)))
      ⊢ WP c (exchange c) fun _ => iprop(Owes (F := F) c (plan.drop 14) ∗ each (fun J => iprop(over c (cs J) ∗ over c (cr J))) ∗ owns (c : Thread nD τ) cM fullShare (table Ct)) := by
  unfold exchange
  rw [dev8, dev9, dev10, dev11, dev12, dev13, dev14, row_leaves c c (Ct c) _ rfl, owns_table, bigSep_around c]
  unfold each
  iintro ⟨#He, ⟨L0, L1, L2, L3, L4, L5, L6, L7⟩, ⟨D1, D2, D3, D4, D5, D6, D7⟩, HO, ⟨S1, S2, S3, S4, S5, S6, S7⟩, ⟨V1, V2, V3, V4, V5, V6, V7⟩, ⟨A1, A2, A3, A4, A5, A6, A7⟩⟩
  iapply (seq c (wp_sendRow Wt Ct K c 1 (by decide) (by decide) (plan.drop 8))) $$ [L0 D1 HO S1 V1]
  · isplitr; · iexact He
    isplitl [L0]; · iexact L0
    isplitl [D1]; · iexact D1
    isplitl [HO]; · iexact HO
    isplitl [S1]; · iexact S1
    iexact V1
  iintro %_ ⟨HO, B1⟩
  iapply (seq c (wp_sendRow Wt Ct K c 2 (by decide) (by decide) (plan.drop 9))) $$ [L1 D2 HO S2 V2]
  · isplitr; · iexact He
    isplitl [L1]; · iexact L1
    isplitl [D2]; · iexact D2
    isplitl [HO]; · iexact HO
    isplitl [S2]; · iexact S2
    iexact V2
  iintro %_ ⟨HO, B2⟩
  iapply (seq c (wp_sendRow Wt Ct K c 3 (by decide) (by decide) (plan.drop 10))) $$ [L2 D3 HO S3 V3]
  · isplitr; · iexact He
    isplitl [L2]; · iexact L2
    isplitl [D3]; · iexact D3
    isplitl [HO]; · iexact HO
    isplitl [S3]; · iexact S3
    iexact V3
  iintro %_ ⟨HO, B3⟩
  iapply (seq c (wp_sendRow Wt Ct K c 4 (by decide) (by decide) (plan.drop 11))) $$ [L3 D4 HO S4 V4]
  · isplitr; · iexact He
    isplitl [L3]; · iexact L3
    isplitl [D4]; · iexact D4
    isplitl [HO]; · iexact HO
    isplitl [S4]; · iexact S4
    iexact V4
  iintro %_ ⟨HO, B4⟩
  iapply (seq c (wp_sendRow Wt Ct K c 5 (by decide) (by decide) (plan.drop 12))) $$ [L4 D5 HO S5 V5]
  · isplitr; · iexact He
    isplitl [L4]; · iexact L4
    isplitl [D5]; · iexact D5
    isplitl [HO]; · iexact HO
    isplitl [S5]; · iexact S5
    iexact V5
  iintro %_ ⟨HO, B5⟩
  iapply (seq c (wp_sendRow Wt Ct K c 6 (by decide) (by decide) (plan.drop 13))) $$ [L5 D6 HO S6 V6]
  · isplitr; · iexact He
    isplitl [L5]; · iexact L5
    isplitl [D6]; · iexact D6
    isplitl [HO]; · iexact HO
    isplitl [S6]; · iexact S6
    iexact V6
  iintro %_ ⟨HO, B6⟩
  iapply (seq c (wp_sendRow Wt Ct K c 7 (by decide) (by decide) (plan.drop 14))) $$ [L6 D7 HO S7 V7]
  · isplitr; · iexact He
    isplitl [L6]; · iexact L6
    isplitl [D7]; · iexact D7
    isplitl [HO]; · iexact HO
    isplitl [S7]; · iexact S7
    iexact V7
  iintro %_ ⟨HO, B7⟩
  iapply (seq c (wp_waitRow Wt Ct K c 1 (by decide) (by decide) (plan.drop 14) (by decide))) $$ [B1 A1 HO]
  · isplitr; · iexact He
    isplitl [B1]; · iexact B1
    isplitl [A1]; · iexact A1
    iexact HO
  iintro %_ ⟨HO, O1, L0, R7⟩
  iapply (seq c (wp_waitRow Wt Ct K c 2 (by decide) (by decide) (plan.drop 14) (by decide))) $$ [B2 A2 HO]
  · isplitr; · iexact He
    isplitl [B2]; · iexact B2
    isplitl [A2]; · iexact A2
    iexact HO
  iintro %_ ⟨HO, O2, L1, R6⟩
  iapply (seq c (wp_waitRow Wt Ct K c 3 (by decide) (by decide) (plan.drop 14) (by decide))) $$ [B3 A3 HO]
  · isplitr; · iexact He
    isplitl [B3]; · iexact B3
    isplitl [A3]; · iexact A3
    iexact HO
  iintro %_ ⟨HO, O3, L2, R5⟩
  iapply (seq c (wp_waitRow Wt Ct K c 4 (by decide) (by decide) (plan.drop 14) (by decide))) $$ [B4 A4 HO]
  · isplitr; · iexact He
    isplitl [B4]; · iexact B4
    isplitl [A4]; · iexact A4
    iexact HO
  iintro %_ ⟨HO, O4, L3, R4⟩
  iapply (seq c (wp_waitRow Wt Ct K c 5 (by decide) (by decide) (plan.drop 14) (by decide))) $$ [B5 A5 HO]
  · isplitr; · iexact He
    isplitl [B5]; · iexact B5
    isplitl [A5]; · iexact A5
    iexact HO
  iintro %_ ⟨HO, O5, L4, R3⟩
  iapply (seq c (wp_waitRow Wt Ct K c 6 (by decide) (by decide) (plan.drop 14) (by decide))) $$ [B6 A6 HO]
  · isplitr; · iexact He
    isplitl [B6]; · iexact B6
    isplitl [A6]; · iexact A6
    iexact HO
  iintro %_ ⟨HO, O6, L5, R2⟩
  ihave HW := (wp_waitRow Wt Ct K c 7 (by decide) (by decide) (plan.drop 14) (by decide)) $$ [B7 A7 HO]
  · isplitr; · iexact He
    isplitl [B7]; · iexact B7
    isplitl [A7]; · iexact A7
    iexact HO
  iapply (wp_wand _ _ _) $$ HW
  iintro %_ ⟨HO, O7, L6, R1⟩
  isplitl [HO]; · iexact HO
  isplitl [O1 O2 O3 O4 O5 O6 O7]
  · isplitl [O1]; · iexact O1
    isplitl [O2]; · iexact O2
    isplitl [O3]; · iexact O3
    isplitl [O4]; · iexact O4
    isplitl [O5]; · iexact O5
    isplitl [O6]; · iexact O6
    iexact O7
  isplitl [L0 L1 L2 L3 L4 L5 L6 L7]
  · iapply (Entails.of_eq (row_leaves c c (Ct c) _ rfl).symm)
    isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  isplitl [R1]; · iexact R1
  isplitl [R2]; · iexact R2
  isplitl [R3]; · iexact R3
  isplitl [R4]; · iexact R4
  isplitl [R5]; · iexact R5
  isplitl [R6]; · iexact R6
  iexact R7
end Exchange

end Cert.KernelIdeal.Moe

end
-- ==== Proof.RingIdeal.lean ====
/-
The rounds of the two rings: a block of weights sent on to each neighbour while the blocks at hand are used, then
the waits for the sends and for the neighbours' blocks.
-/
module

public import proofs.«01_k».proof.Proof.CountsIdeal
public import Idealize.ShloMosaic.Lib.Pointwise.Reshape

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The printed devices and the transfers' units -/

theorem dev15 (d : Dev nD) : (⟨k0_dev15 d, k0_dev15_lt d⟩ : Dev nD) = up d 1 := Fin.ext (k0_dev15_eq d)
theorem dev16 (d : Dev nD) : (⟨k0_dev16 d, k0_dev16_lt d⟩ : Dev nD) = up d 7 := Fin.ext (k0_dev16_eq d)
theorem dev17 (d : Dev nD) : (⟨k0_dev17 d, k0_dev17_lt d⟩ : Dev nD) = up d 1 := Fin.ext (k0_dev17_eq d)
theorem dev18 (d : Dev nD) : (⟨k0_dev18 d, k0_dev18_lt d⟩ : Dev nD) = up d 7 := Fin.ext (k0_dev18_eq d)
theorem dev19 (d : Dev nD) : (⟨k0_dev19 d, k0_dev19_lt d⟩ : Dev nD) = up d 1 := Fin.ext (k0_dev19_eq d)
theorem dev20 (d : Dev nD) : (⟨k0_dev20 d, k0_dev20_lt d⟩ : Dev nD) = up d 7 := Fin.ext (k0_dev20_eq d)
theorem dev21 (d : Dev nD) : (⟨k0_dev21 d, k0_dev21_lt d⟩ : Dev nD) = up d 1 := Fin.ext (k0_dev21_eq d)
theorem dev22 (d : Dev nD) : (⟨k0_dev22 d, k0_dev22_lt d⟩ : Dev nD) = up d 7 := Fin.ext (k0_dev22_eq d)

theorem credit_slot (M : Memref sig .tc .vmem S3x4x512x1024 .bf16) (k : Fin 3) : (slotOf M k).view.dmaCredit = NS := rfl
theorem credit_half (M : Memref sig .tc .vmem S3x4x512x1024 .bf16) (k : Fin 3) (h : Fin 2) : (halfOf M k h).view.dmaCredit = NH := rfl
theorem credit_w : wM.view.dmaCredit = NS := rfl
theorem amt_slot : ∀ i ∈ ([0, 1, 2, 4, 5, 6, 8, 9, 10, 12, 13, 14] : List (Fin 30)), amt i = NS := by
  intro i hi
  unfold amt
  fin_cases hi <;> rfl
theorem amt_half : ∀ i ∈ ([3, 7, 11, 15] : List (Fin 30)), amt i = NH := by
  intro i hi
  unfold amt
  fin_cases hi <;> rfl

section Rounds
variable (Wt : Dev nD → S4x512x1024.Idx → Elt F .bf16) (Ct : Dev nD → S1x32.Idx → Elt F .i32)
variable (K : Dev nD × Option (Fin 30) → ℕ) (c : Dev nD)

/-- What a round of transfers `i0` to the right, `i2` to the left, `i1` from the left and `i3` from the right spends. -/
def roundIn (i0 i1 i2 i3 : Fin 30) : sProp 𝕄 :=
  iprop(sendTok c i0 ∗ recvTok c 1 i1 ∗ sendTok c i2 ∗ recvTok c 7 i3 ∗ ready c i1 ∗ ready c i3)
/-- The round's four cells when it is over. -/
def roundOut (i0 i1 i2 i3 : Fin 30) : sProp 𝕄 := iprop(over c i0 ∗ over c i1 ∗ over c i2 ∗ over c i3)

/-- The four waits of a round. -/
theorem wp_waitRound {s : Shape} {e : EltTy} (r0 r1 l0 l1 : Memref sig .tc .vmem s e) (hr0 : r0.view.WordExact) (hr1 : r1.view.WordExact) (hl0 : l0.view.WordExact) (hl1 : l1.view.WordExact)
    (i0 i1 i2 i3 : Fin 30) (l : List (Option (Fin 30) × ℕ)) (h0 : r0.view.dmaCredit = amt i0) (h1 : r1.view.dmaCredit = amt i1) (h2 : l0.view.dmaCredit = amt i2) (h3 : l1.view.dmaCredit = amt i3)
    (hl : ∀ i ∈ [i0, i1, i2, i3], ∀ x ∈ l, lvl (some i) < lvl x.1) :
    iprop(env Wt Ct K ∗ ready c i0 ∗ ready c i1 ∗ ready c i2 ∗ ready c i3 ∗ Owes c l)
      ⊢ WP c (waitRound r0 r1 l0 l1 hr0 hr1 hl0 hl1 i0 i1 i2 i3) fun _ => iprop(Owes (F := F) c l ∗ roundOut c i0 i1 i2 i3
          ∗ dmaPay Wt Ct c i0 ∗ dmaPay Wt Ct c i1 ∗ dmaPay Wt Ct c i2 ∗ dmaPay Wt Ct c i3) := by
  unfold waitRound roundOut
  iintro ⟨#He, A0, A1, A2, A3, HO⟩
  iapply (seq c (wp_wait Wt Ct K c r1 r0 hr1 hr0 i0 h0 l (hl i0 (by simp)))) $$ [A0 HO]
  · isplitr; · iexact He
    isplitl [A0]; · iexact A0
    iexact HO
  iintro %_ ⟨HO, O0, P0⟩
  iapply (seq c (wp_wait Wt Ct K c r0 r1 hr0 hr1 i1 h1 l (hl i1 (by simp)))) $$ [A1 HO]
  · isplitr; · iexact He
    isplitl [A1]; · iexact A1
    iexact HO
  iintro %_ ⟨HO, O1, P1⟩
  iapply (seq c (wp_wait Wt Ct K c l1 l0 hl1 hl0 i2 h2 l (hl i2 (by simp)))) $$ [A2 HO]
  · isplitr; · iexact He
    isplitl [A2]; · iexact A2
    iexact HO
  iintro %_ ⟨HO, O2, P2⟩
  ihave HW := (wp_wait Wt Ct K c l0 l1 hl0 hl1 i3 h3 l (hl i3 (by simp))) $$ [A3 HO]
  · isplitr; · iexact He
    isplitl [A3]; · iexact A3
    iexact HO
  iapply (wp_wand _ _ _) $$ HW
  iintro %_ ⟨HO, O3, P3⟩
  isplitl [HO]; · iexact HO
  isplitl [O0 O1 O2 O3]
  · isplitl [O0]; · iexact O0
    isplitl [O1]; · iexact O1
    isplitl [O2]; · iexact O2
    iexact O3
  isplitl [P0]; · iexact P0
  isplitl [P1]; · iexact P1
  isplitl [P2]; · iexact P2
  iexact P3

/-! What the rings' transfers hand device `c`. -/

theorem pay0 : dmaPay Wt Ct c 0 = owns (c : Thread nD τ) wM sA (Wt c) := rfl
theorem pay8 : dmaPay Wt Ct c 8 = owns (c : Thread nD τ) wM sB (Wt c) := rfl
theorem pay4 : dmaPay Wt Ct c 4 = owns (c : Thread nD τ) (slotOf rM 0) fullShare (Wt (up c 7)) := rfl
theorem pay12 : dmaPay Wt Ct c 12 = owns (c : Thread nD τ) (slotOf lM 0) fullShare (Wt (up c 1)) := rfl
theorem pay1 : dmaPay Wt Ct c 1 = owns (c : Thread nD τ) (slotOf rM 0) sA (Wt (up c 7)) := rfl
theorem pay9 : dmaPay Wt Ct c 9 = owns (c : Thread nD τ) (slotOf lM 0) sA (Wt (up c 1)) := rfl
theorem pay5 : dmaPay Wt Ct c 5 = owns (c : Thread nD τ) (slotOf rM 1) fullShare (Wt (up c 6)) := rfl
theorem pay13 : dmaPay Wt Ct c 13 = owns (c : Thread nD τ) (slotOf lM 1) fullShare (Wt (up c 2)) := rfl
theorem pay2 : dmaPay Wt Ct c 2 = owns (c : Thread nD τ) (slotOf rM 1) sA (Wt (up c 6)) := rfl
theorem pay10 : dmaPay Wt Ct c 10 = owns (c : Thread nD τ) (slotOf lM 1) sA (Wt (up c 2)) := rfl
theorem pay6 : dmaPay Wt Ct c 6 = iprop(owns (c : Thread nD τ) (slotOf rM 2) fullShare (Wt (up c 5)) ∗ some' (up c 7) (halfOf lM 0 1)) := rfl
theorem pay14 : dmaPay Wt Ct c 14 = iprop(owns (c : Thread nD τ) (slotOf lM 2) fullShare (Wt (up c 3)) ∗ some' (up c 1) (halfOf lM 0 0)) := rfl
theorem pay3 : dmaPay Wt Ct c 3 = owns (c : Thread nD τ) (halfOf rM 2 0) sA (half 0 (Wt (up c 5))) := rfl
theorem pay11 : dmaPay Wt Ct c 11 = owns (c : Thread nD τ) (halfOf lM 2 1) sA (half 1 (Wt (up c 3))) := rfl
theorem pay7 : dmaPay Wt Ct c 7 = owns (c : Thread nD τ) (halfOf lM 0 0) fullShare (half 0 (Wt (up c 4))) := rfl
theorem pay15 : dmaPay Wt Ct c 15 = owns (c : Thread nD τ) (halfOf lM 0 1) fullShare (half 1 (Wt (up c 4))) := rfl

variable (v8 : Vec F S2048x1 .i32) (v9 : IVec S2048x1 32) (keep : IVec S2048x1 1) (X : S2048x512.Idx → Elt F .bf16) (p : PosShare TreeShare)
  (Y : Fin 4 → S512x1024.Idx → Elt F .f32)

/-- A load of a whole memref through the rectangle of all of it. -/
theorem wp_ldAll {sh : Shape} {e : EltTy} (M : Memref sig .tc .vmem sh e) (q : PosShare TreeShare) (off : Fin sh.rank → ℕ) (hoff : off = fun _ => 0) (inb) (hl) (X : sh.Idx → Elt F e) :
    owns (c : Thread nD τ) M q X ⊢ WP c (Prog.lift (.load M (Rect.unit (s := sh) off sh.size inb).toLoadRect hl)) fun v => iprop(⌜v = X⌝ ∗ owns (c : Thread nD τ) M q X) := by
  refine (wp_ld c M q (Rect.unit (s := sh) off sh.size inb) hl X).trans (wp_mono _ _ _ fun v => ?_)
  subst hoff
  have he : (fun j => X ((Rect.unit (s := sh) (fun _ => 0) sh.size inb).emb j)) = X := by
    funext j
    refine congrArg X (funext fun a => Fin.ext ?_)
    show 0 + 1 * (j a).val = (j a).val; omega
  rw [he]

/-- The first round: this device's block sent both ways and used, its neighbours' blocks received. -/
theorem wp_round1 (T : S8x32.Idx → Elt F .i32) :
    iprop(env Wt Ct K ∗ owns (c : Thread nD τ) wM fullShare (Wt c) ∗ owns (c : Thread nD τ) cM fullShare T ∗ some' (up c 1) (slotOf rM 0) ∗ some' (up c 7) (slotOf lM 0)
        ∗ owns (c : Thread nD τ) xM p X ∗ outs c Y ∗ Owes c (plan.drop 14) ∗ roundIn c 0 4 8 12)
      ⊢ WP c (round1 c v8 v9) fun keep => iprop(⌜keep = keepOf (meWord c) v8 T⌝ ∗ Owes (F := F) c (plan.drop 16) ∗ roundOut c 0 4 8 12
          ∗ owns (c : Thread nD τ) wM fullShare (Wt c) ∗ owns (c : Thread nD τ) cM fullShare T
          ∗ owns (c : Thread nD τ) (slotOf rM 0) fullShare (Wt (up c 7)) ∗ owns (c : Thread nD τ) (slotOf lM 0) fullShare (Wt (up c 1))
          ∗ owns (c : Thread nD τ) xM p X ∗ outs c (prodB v9 (keepOf (meWord c) v8 T) (originOf (meWord c)) (Wt c) X)) := by
  unfold round1 roundIn sendTok recvTok
  rw [dev15, dev16, owns_halve c wM fullShare (Wt c), owns_halve c wM fullShare.right (Wt c)]
  iintro ⟨#He, ⟨WA, WB, WC⟩, HT, DR, DL, HX, HY, HO, S0, V1, S2, V3, A1, A3⟩
  iapply (seq c (wp_copy Wt Ct K c wM (slotOf rM 0) _ _ 0 4 1 (up c 1) rfl sA (Wt c) (plan.drop 15)
    ((credit_slot rM 0).trans (amt_slot 4 (by decide)).symm) ((amt_slot 0 (by decide)).trans (amt_slot 4 (by decide)).symm) .rfl
    (by
      show _ ⊢ owns ((up c 1 : Dev nD) : Thread nD τ) (slotOf rM 0) fullShare (Wt (up (up c 1) 7))
      rw [up_up, up_eight]))) $$ [WA DR HO S0 V1]
  · isplitr; · iexact He
    isplitl [WA]; · iexact WA
    isplitl [DR]; · iexact DR
    isplitl [HO]; · iexact HO
    isplitl [S0]; · iexact S0
    iexact V1
  iintro %_ ⟨HO, A0⟩
  iapply (seq c (wp_copy Wt Ct K c wM (slotOf lM 0) _ _ 8 12 7 (up c 7) rfl sB (Wt c) (plan.drop 16)
    ((credit_slot lM 0).trans (amt_slot 12 (by decide)).symm) ((amt_slot 8 (by decide)).trans (amt_slot 12 (by decide)).symm) .rfl
    (by
      show _ ⊢ owns ((up c 7 : Dev nD) : Thread nD τ) (slotOf lM 0) fullShare (Wt (up (up c 7) 1))
      rw [up_up, up_eight]))) $$ [WB DL HO S2 V3]
  · isplitr; · iexact He
    isplitl [WB]; · iexact WB
    isplitl [DL]; · iexact DL
    isplitl [HO]; · iexact HO
    isplitl [S2]; · iexact S2
    iexact V3
  iintro %_ ⟨HO, A2⟩
  iapply (seq c (wp_ldAll c cM fullShare _ (by funext a; fin_cases a <;> rfl) _ _ T)) $$ HT
  iintro %cn ⟨%hcn, HT⟩
  iapply (seq c (wp_ldAll c wM sC _ (by funext a; fin_cases a <;> rfl) _ _ (Wt c))) $$ WC
  iintro %w ⟨%hw, WC⟩
  subst hcn hw
  rw [show shapeCast S4x512x1024 (Wt c) shapeCasts_S4x512x1024_S4x512x1024 = Wt c from shapeCast_id _ _]
  iapply (seq c (wp_blockSet c v9 (keepOf (meWord c) v8 cn) (originOf (meWord c)) (Wt c) X p Y)) $$ [HX HY]
  · isplitl [HX]; · iexact HX
    iexact HY
  iintro %_ ⟨HX, HY⟩
  iapply (seq c (wp_waitRound Wt Ct K c wM (slotOf rM 0) wM (slotOf lM 0) _ _ _ _ 0 4 8 12 (plan.drop 16)
    (credit_w.trans (amt_slot 0 (by decide)).symm) ((credit_slot rM 0).trans (amt_slot 4 (by decide)).symm)
    (credit_w.trans (amt_slot 8 (by decide)).symm) ((credit_slot lM 0).trans (amt_slot 12 (by decide)).symm) (by decide))) $$ [A0 A1 A2 A3 HO]
  · isplitr; · iexact He
    isplitl [A0]; · iexact A0
    isplitl [A1]; · iexact A1
    isplitl [A2]; · iexact A2
    isplitl [A3]; · iexact A3
    iexact HO
  rw [pay0, pay4, pay8, pay12]
  iintro %_ ⟨HO, Hover, WA, PR, WB, PL⟩
  iapply (wp_done c)
  isplitr; · ipureintro; rfl
  isplitl [HO]; · iexact HO
  isplitl [Hover]; · iexact Hover
  isplitl [WA WB WC]
  · isplitl [WA]; · iexact WA
    isplitl [WB]; · iexact WB
    iexact WC
  isplitl [HT]; · iexact HT
  isplitl [PR]; · iexact PR
  isplitl [PL]; · iexact PL
  isplitl [HX]; · iexact HX
  iexact HY

/-- A middle round: the blocks `WR` and `WL` in slot `k` sent on to the neighbours' slot `k'` with `RR` and `RL`, and used. -/
theorem wp_roundMid (k k' : Fin 3) (i0 i1 i2 i3 : Fin 30) (or ol : BitVec 32) (WR WL : S4x512x1024.Idx → Elt F .bf16) (RR RL : sProp 𝕄) (l : List (Option (Fin 30) × ℕ))
    (hi : ∀ i ∈ [i0, i1, i2, i3], amt i = NS) (hl : ∀ i ∈ [i0, i1, i2, i3], ∀ x ∈ l, lvl (some i) < lvl x.1)
    (p0 : dmaPay Wt Ct c i0 = owns (c : Thread nD τ) (slotOf rM k) sA WR) (p2 : dmaPay Wt Ct c i2 = owns (c : Thread nD τ) (slotOf lM k) sA WL)
    (p1 : iprop(owns ((up c 1 : Dev nD) : Thread nD τ) (slotOf rM k') fullShare WR ∗ RR) ⊢ dmaPay Wt Ct (up c 1) i1)
    (p3 : iprop(owns ((up c 7 : Dev nD) : Thread nD τ) (slotOf lM k') fullShare WL ∗ RL) ⊢ dmaPay Wt Ct (up c 7) i3) :
    iprop(env Wt Ct K ∗ owns (c : Thread nD τ) (slotOf rM k) fullShare WR ∗ owns (c : Thread nD τ) (slotOf lM k) fullShare WL
        ∗ (some' (up c 1) (slotOf rM k') ∗ RR) ∗ (some' (up c 7) (slotOf lM k') ∗ RL)
        ∗ owns (c : Thread nD τ) xM p X ∗ outs c Y ∗ Owes c ((some i1, 1) :: (some i3, 7) :: l) ∗ roundIn c i0 i1 i2 i3)
      ⊢ WP c (roundMid k k' (up c 1) (up c 7) i0 i1 i2 i3 v9 keep or ol) fun _ => iprop(Owes (F := F) c l ∗ roundOut c i0 i1 i2 i3
          ∗ owns (c : Thread nD τ) (slotOf rM k) fullShare WR ∗ owns (c : Thread nD τ) (slotOf lM k) fullShare WL
          ∗ dmaPay Wt Ct c i1 ∗ dmaPay Wt Ct c i3
          ∗ owns (c : Thread nD τ) xM p X ∗ outs c (addB v9 keep ol WL X (addB v9 keep or WR X Y))) := by
  unfold roundMid roundIn sendTok recvTok
  rw [owns_halve c (slotOf rM k) fullShare WR, owns_halve c (slotOf lM k) fullShare WL]
  have a0 := hi i0 (by simp)
  have a1 := hi i1 (by simp)
  have a2 := hi i2 (by simp)
  have a3 := hi i3 (by simp)
  iintro ⟨#He, ⟨RA, RB⟩, ⟨LA, LB⟩, DR, DL, HX, HY, HO, S0, V1, S2, V3, A1, A3⟩
  iapply (seq c (wp_copy_with Wt Ct K c (slotOf rM k) (slotOf rM k') _ _ i0 i1 1 (up c 1) rfl sA WR RR ((some i3, 7) :: l)
    ((credit_slot rM k').trans a1.symm) (a0.trans a1.symm) (Entails.of_eq p0.symm) p1)) $$ [RA DR HO S0 V1]
  · isplitr; · iexact He
    isplitl [RA]; · iexact RA
    isplitl [DR]; · iexact DR
    isplitl [HO]; · iexact HO
    isplitl [S0]; · iexact S0
    iexact V1
  iintro %_ ⟨HO, A0⟩
  iapply (seq c (wp_copy_with Wt Ct K c (slotOf lM k) (slotOf lM k') _ _ i2 i3 7 (up c 7) rfl sA WL RL l
    ((credit_slot lM k').trans a3.symm) (a2.trans a3.symm) (Entails.of_eq p2.symm) p3)) $$ [LA DL HO S2 V3]
  · isplitr; · iexact He
    isplitl [LA]; · iexact LA
    isplitl [DL]; · iexact DL
    isplitl [HO]; · iexact HO
    isplitl [S2]; · iexact S2
    iexact V3
  iintro %_ ⟨HO, A2⟩
  iapply (seq c (wp_slot c _ rM k WR)) $$ RB
  iintro %wr ⟨%hwr, RB⟩
  rw [hwr]
  iapply (seq c (wp_blockAdd c v9 keep or WR X p Y)) $$ [HX HY]
  · isplitl [HX]; · iexact HX
    iexact HY
  iintro %_ ⟨HX, HY⟩
  iapply (seq c (wp_slot c _ lM k WL)) $$ LB
  iintro %wl ⟨%hwl, LB⟩
  rw [hwl]
  iapply (seq c (wp_blockAdd c v9 keep ol WL X p _)) $$ [HX HY]
  · isplitl [HX]; · iexact HX
    iexact HY
  iintro %_ ⟨HX, HY⟩
  ihave HW := (wp_waitRound Wt Ct K c (slotOf rM k) (slotOf rM k') (slotOf lM k) (slotOf lM k') (slot_words _ hr k) (slot_words _ hr k') (slot_words _ Moe.hl k) (slot_words _ Moe.hl k') i0 i1 i2 i3 l
    ((credit_slot rM k).trans a0.symm) ((credit_slot rM k').trans a1.symm)
    ((credit_slot lM k).trans a2.symm) ((credit_slot lM k').trans a3.symm) hl) $$ [A0 A1 A2 A3 HO]
  · isplitr; · iexact He
    isplitl [A0]; · iexact A0
    isplitl [A1]; · iexact A1
    isplitl [A2]; · iexact A2
    isplitl [A3]; · iexact A3
    iexact HO
  iapply (wp_wand _ _ _) $$ HW
  iintro %_ ⟨HO, Hover, P0, P1, P2, P3⟩
  ihave P0 := (Entails.of_eq p0) $$ P0
  ihave P2 := (Entails.of_eq p2) $$ P2
  isplitl [HO]; · iexact HO
  isplitl [Hover]; · iexact Hover
  isplitl [P0 RB]
  · isplitl [P0]; · iexact P0
    iexact RB
  isplitl [P2 LB]
  · isplitl [P2]; · iexact P2
    iexact LB
  isplitl [P1]; · iexact P1
  isplitl [P3]; · iexact P3
  isplitl [HX]; · iexact HX
  iexact HY

/-- The last round: the opposite device's block comes in halves, one each way. -/
theorem wp_roundLast (or ol oo : BitVec 32) :
    iprop(env Wt Ct K ∗ owns (c : Thread nD τ) (slotOf rM 2) fullShare (Wt (up c 5)) ∗ owns (c : Thread nD τ) (slotOf lM 2) fullShare (Wt (up c 3))
        ∗ some' (up c 1) (halfOf lM 0 0) ∗ some' (up c 7) (halfOf lM 0 1)
        ∗ owns (c : Thread nD τ) xM p X ∗ outs c Y ∗ Owes c (plan.drop 20) ∗ roundIn c 3 7 11 15)
      ⊢ WP c (roundLast (up c 1) (up c 7) v9 keep or ol oo) fun _ => iprop(Owes (F := F) c [] ∗ roundOut c 3 7 11 15
          ∗ owns (c : Thread nD τ) (slotOf rM 2) fullShare (Wt (up c 5)) ∗ owns (c : Thread nD τ) (slotOf lM 2) fullShare (Wt (up c 3))
          ∗ owns (c : Thread nD τ) (slotOf lM 0) fullShare (Wt (up c 4))
          ∗ owns (c : Thread nD τ) xM p X ∗ outs c (addB v9 keep oo (Wt (up c 4)) X (addB v9 keep ol (Wt (up c 3)) X (addB v9 keep or (Wt (up c 5)) X Y)))) := by
  unfold roundLast roundIn sendTok recvTok
  rw [owns_halve c (slotOf rM 2) fullShare (Wt (up c 5)), owns_halve c (slotOf lM 2) fullShare (Wt (up c 3)),
    owns_halves c rM sA 2 (Wt (up c 5)), owns_halves c lM sA 2 (Wt (up c 3))]
  iintro ⟨#He, ⟨⟨RA, RA'⟩, RB⟩, ⟨⟨LA', LA⟩, LB⟩, DR, DL, HX, HY, HO, S0, V1, S2, V3, A1, A3⟩
  iapply (seq c (wp_copy Wt Ct K c (halfOf rM 2 0) (halfOf lM 0 0) _ _ 3 7 1 (up c 1) rfl sA (half 0 (Wt (up c 5))) (plan.drop 21)
    ((credit_half lM 0 0).trans (amt_half 7 (by decide)).symm) ((amt_half 3 (by decide)).trans (amt_half 7 (by decide)).symm) .rfl
    (by
      show _ ⊢ owns ((up c 1 : Dev nD) : Thread nD τ) (halfOf lM 0 0) fullShare (half 0 (Wt (up (up c 1) 4)))
      rw [up_up]))) $$ [RA DR HO S0 V1]
  · isplitr; · iexact He
    isplitl [RA]; · iexact RA
    isplitl [DR]; · iexact DR
    isplitl [HO]; · iexact HO
    isplitl [S0]; · iexact S0
    iexact V1
  iintro %_ ⟨HO, A0⟩
  iapply (seq c (wp_copy Wt Ct K c (halfOf lM 2 1) (halfOf lM 0 1) _ _ 11 15 7 (up c 7) rfl sA (half 1 (Wt (up c 3))) []
    ((credit_half lM 0 1).trans (amt_half 15 (by decide)).symm) ((amt_half 11 (by decide)).trans (amt_half 15 (by decide)).symm) .rfl
    (by
      show _ ⊢ owns ((up c 7 : Dev nD) : Thread nD τ) (halfOf lM 0 1) fullShare (half 1 (Wt (up (up c 7) 4)))
      rw [up_up, show 7 + 4 = 3 + 8 from rfl, up_add_eight]))) $$ [LA DL HO S2 V3]
  · isplitr; · iexact He
    isplitl [LA]; · iexact LA
    isplitl [DL]; · iexact DL
    isplitl [HO]; · iexact HO
    isplitl [S2]; · iexact S2
    iexact V3
  iintro %_ ⟨HO, A2⟩
  iapply (seq c (wp_slot c _ rM 2 (Wt (up c 5)))) $$ RB
  iintro %wr ⟨%hwr, RB⟩
  rw [hwr]
  iapply (seq c (wp_blockAdd c v9 keep or (Wt (up c 5)) X p Y)) $$ [HX HY]
  · isplitl [HX]; · iexact HX
    iexact HY
  iintro %_ ⟨HX, HY⟩
  iapply (seq c (wp_slot c _ lM 2 (Wt (up c 3)))) $$ LB
  iintro %wl ⟨%hwl, LB⟩
  rw [hwl]
  iapply (seq c (wp_blockAdd c v9 keep ol (Wt (up c 3)) X p _)) $$ [HX HY]
  · isplitl [HX]; · iexact HX
    iexact HY
  iintro %_ ⟨HX, HY⟩
  iapply (seq c (wp_waitRound Wt Ct K c (halfOf rM 2 0) (halfOf lM 0 0) (halfOf lM 2 1) (halfOf lM 0 1) _ _ _ _ 3 7 11 15 []
    ((credit_half rM 2 0).trans (amt_half 3 (by decide)).symm) ((credit_half lM 0 0).trans (amt_half 7 (by decide)).symm)
    ((credit_half lM 2 1).trans (amt_half 11 (by decide)).symm) ((credit_half lM 0 1).trans (amt_half 15 (by decide)).symm)
    (fun _ _ x hx => absurd hx List.not_mem_nil))) $$ [A0 A1 A2 A3 HO]
  · isplitr; · iexact He
    isplitl [A0]; · iexact A0
    isplitl [A1]; · iexact A1
    isplitl [A2]; · iexact A2
    isplitl [A3]; · iexact A3
    iexact HO
  rw [pay3, pay7, pay11, pay15]
  iintro %_ ⟨HO, Hover, RA, PR, LA, PL⟩
  ihave Ho := (Entails.of_eq (owns_halves c lM fullShare 0 (Wt (up c 4))).symm) $$ [PR PL]
  · isplitl [PR]; · iexact PR
    iexact PL
  iapply (seq c (wp_slot c _ lM 0 (Wt (up c 4)))) $$ Ho
  iintro %wo ⟨%hwo, Ho⟩
  rw [hwo]
  ihave HW := (wp_blockAdd c v9 keep oo (Wt (up c 4)) X p _) $$ [HX HY]
  · isplitl [HX]; · iexact HX
    iexact HY
  iapply (wp_wand _ _ _) $$ HW
  iintro %_ ⟨HX, HY⟩
  isplitl [HO]; · iexact HO
  isplitl [Hover]; · iexact Hover
  isplitl [RA RA' RB]
  · isplitl [RA RA']
    · isplitl [RA]; · iexact RA
      iexact RA'
    iexact RB
  isplitl [LA LA' LB]
  · isplitl [LA LA']
    · isplitl [LA']; · iexact LA'
      iexact LA
    iexact LB
  isplitl [Ho]; · iexact Ho
  isplitl [HX]; · iexact HX
  iexact HY
end Rounds

end Cert.KernelIdeal.Moe

end
-- ==== Proof.BodyIdeal.lean ====
/-
The whole body: from its windows' blocks, its buffers and its share of the protocol to the output, every cell's round
over.
-/
module

public import proofs.«01_k».proof.Proof.RingIdeal

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One of each for the four cells of a round. -/
def four (f : Fin 30 → sProp 𝕄) (i0 i1 i2 i3 : Fin 30) : sProp 𝕄 := iprop(f i0 ∗ f i1 ∗ f i2 ∗ f i3)

/-- Something for every cell of a device: the barrier's, the rings' by rounds, the counts'. -/
theorem bigSep_cells (f : Option (Fin 30) → sProp 𝕄) : bigSep Finset.univ f
    = iprop(f none ∗ four (fun i => f (some i)) 0 4 8 12 ∗ four (fun i => f (some i)) 1 5 9 13 ∗ four (fun i => f (some i)) 2 6 10 14 ∗ four (fun i => f (some i)) 3 7 11 15
        ∗ each (fun J => f (some (cs J))) ∗ each (fun J => f (some (cr J)))) := by
  rw [bigSep_univ_eq_bigSepL [none, some 0, some 4, some 8, some 12, some 1, some 5, some 9, some 13, some 2, some 6, some 10, some 14, some 3, some 7, some 11, some 15,
    some 16, some 17, some 18, some 19, some 20, some 21, some 22, some 23, some 24, some 25, some 26, some 27, some 28, some 29] (by decide) (by decide)]
  simp only [bigSepL_cons_cons, bigSepL_singleton]
  have ha (A B C : sProp 𝕄) : iprop((A ∗ B) ∗ C) = iprop(A ∗ B ∗ C) := BI.equiv_iff.mp ⟨BI.sep_assoc, BI.sep_assoc'⟩
  unfold four each
  simp only [ha]
  rfl

section Body
variable (Wt : Dev nD → S4x512x1024.Idx → Elt F .bf16) (Ct : Dev nD → S1x32.Idx → Elt F .i32)
variable (K : Dev nD × Option (Fin 30) → ℕ) (c : Dev nD)

/-- Device `c`'s share of the protocol: what it pays with, its cells and the credit of its waits. -/
def ghost : sProp 𝕄 :=
  iprop((each (sigTok c) ∗ cred (tallyAt (barCell c) () 7) ∗ atPos ER (barCell c) 0 ∅ 0)
    ∗ (each (fun J => sendTok c (cs J)) ∗ each (fun J => recvTok c J (cr J)) ∗ each (fun J => ready c (cr J)))
    ∗ roundIn c 0 4 8 12 ∗ roundIn c 1 5 9 13 ∗ roundIn c 2 6 10 14 ∗ roundIn c 3 7 11 15)

/-- The output's four quarters on device `c`: the eight blocks' products in the order they come. -/
def outQ (X : S2048x512.Idx → Elt F .bf16) (E : S2048x1.Idx → Elt F .i32) : Fin 4 → S512x1024.Idx → Elt F .f32 :=
  let keep := keepOf (meWord c) E (table Ct)
  let e := k0_pay2 (F := F) E
  let b := meWord c
  addB e keep (originOf (Scalar.subi b 4#32)) (Wt (up c 4)) X (addB e keep (originOf (Scalar.addi b 3#32)) (Wt (up c 3)) X (addB e keep (originOf (Scalar.subi b 3#32)) (Wt (up c 5)) X
    (addB e keep (originOf (Scalar.addi b 2#32)) (Wt (up c 2)) X (addB e keep (originOf (Scalar.subi b 2#32)) (Wt (up c 6)) X
      (addB e keep (originOf (Scalar.addi b 1#32)) (Wt (up c 1)) X (addB e keep (originOf (Scalar.subi b 1#32)) (Wt (up c 7)) X
        (prodB e keep (originOf b) (Wt c) X)))))))

/-- The body's triple. -/
theorem wp_prog (X : S2048x512.Idx → Elt F .bf16) (E : S2048x1.Idx → Elt F .i32) (hE : Ct c = k0_pay4 E) :
    iprop(env Wt Ct K ∗ ghost c ∗ Owes c plan ∗ owns (c : Thread nD τ) xM fullShare X ∗ owns (c : Thread nD τ) eM fullShare E ∗ owns (c : Thread nD τ) wM fullShare (Wt c)
        ∗ some' c oM ∗ slots c rM ∗ slots c lM ∗ some' c cM)
      ⊢ WP c prog fun _ => iprop(Owes (F := F) c [] ∗ (bigSep Finset.univ fun k => atPos ER (kcell (c, k)) 1 ∅ 0)
          ∗ owns (c : Thread nD τ) xM fullShare X ∗ owns (c : Thread nD τ) eM fullShare E ∗ owns (c : Thread nD τ) wM fullShare (Wt c)
          ∗ owns (c : Thread nD τ) oM fullShare (glue (outQ Wt Ct c X E)) ∗ slots c rM ∗ slots c lM ∗ some' c cM) := by
  unfold prog
  have hd (k : Dev nD → P F PUnit) (Q : PUnit → sProp 𝕄) : WP c (Prog.lift .deviceId >>= k) Q = WP c (k c) Q := by
    simp only [WP, Prog.lift, Prog.bind_op, Prog.bind_ret, Prog.pure_eq_ret, wp_deviceId]
  rw [hd, dev17, dev18, dev19, dev20, dev21, dev22, bigSep_cells]
  unfold ghost
  iintro ⟨#He, ⟨⟨GS, GC, GA⟩, ⟨XS, XR, XW⟩, G1, G2, G3, G4⟩, HO, HX, HE, HW, HY, HR, HL, HC⟩
  iapply (seq c (wp_ldAll c eM fullShare _ (by funext a; fin_cases a <;> rfl) _ _ E)) $$ HE
  iintro %v8 ⟨%h8, HE⟩
  subst h8
  unfold some'
  icases HC with ⟨%T, HC⟩
  icases HY with ⟨%Y0, HY⟩
  ihave HY := (outs_of c Y0) $$ HY
  icases HY with ⟨%Y, HY⟩
  iapply (seq c (wp_enter Wt Ct K c v8 T)) $$ [HC HR HL HO GS GC GA]
  · isplitr; · iexact He
    isplitl [HC]; · iexact HC
    isplitl [HR]; · iexact HR
    isplitl [HL]; · iexact HL
    isplitl [HO]; · iexact HO
    isplitl [GS]; · iexact GS
    isplitl [GC]; · iexact GC
    iexact GA
  rw [← hE]
  iintro %_ ⟨HO, OB, HC, HD, DR, DL⟩
  unfold slots
  icases DR with ⟨DR0, DR1, DR2⟩
  icases DL with ⟨DL0, DL1, DL2⟩
  iapply (seq c (wp_exchange Wt Ct K c)) $$ [HC HD HO XS XR XW]
  · isplitr; · iexact He
    isplitl [HC]; · iexact HC
    isplitl [HD]; · iexact HD
    isplitl [HO]; · iexact HO
    isplitl [XS]; · iexact XS
    isplitl [XR]; · iexact XR
    iexact XW
  iintro %_ ⟨HO, OX, HC⟩
  iapply (seq c (wp_round1 Wt Ct K c v8 (k0_pay2 v8) X fullShare Y (table Ct))) $$ [HW HC DR0 DL0 HX HY HO G1]
  · isplitr; · iexact He
    isplitl [HW]; · iexact HW
    isplitl [HC]; · iexact HC
    isplitl [DR0]; · iexact DR0
    isplitl [DL0]; · iexact DL0
    isplitl [HX]; · iexact HX
    isplitl [HY]; · iexact HY
    isplitl [HO]; · iexact HO
    iexact G1
  iintro %keep ⟨%hk, HO, O1, HW, HC, R0, L0, HX, HY⟩
  subst hk
  iapply (seq c (wp_roundMid Wt Ct K c (k0_pay2 v8) (keepOf (meWord c) v8 (table Ct)) X fullShare _ 0 1 1 5 9 13 _ _ (Wt (up c 7)) (Wt (up c 1)) iprop(emp) iprop(emp) (plan.drop 18)
    (fun i hi => amt_slot i (by revert i; decide)) (by decide) (pay1 Wt Ct c) (pay9 Wt Ct c)
    (by
      rw [pay5, up_up, show 1 + 6 = 7 from rfl]
      iintro ⟨H, -⟩; iexact H)
    (by
      rw [pay13, up_up, show 7 + 2 = 1 + 8 from rfl, up_add_eight]
      iintro ⟨H, -⟩; iexact H))) $$ [R0 L0 DR1 DL1 HX HY HO G2]
  · isplitr; · iexact He
    isplitl [R0]; · iexact R0
    isplitl [L0]; · iexact L0
    isplitl [DR1]
    · isplitl [DR1]; · iexact DR1
      iempintro
    isplitl [DL1]
    · isplitl [DL1]; · iexact DL1
      iempintro
    isplitl [HX]; · iexact HX
    isplitl [HY]; · iexact HY
    isplitl [HO]; · iexact HO
    iexact G2
  rw [pay5, pay13]
  iintro %_ ⟨HO, O2, R0, L0, R1, L1, HX, HY⟩
  ihave L0 := (Entails.of_eq (owns_halves c lM fullShare 0 (Wt (up c 1)))) $$ L0
  icases L0 with ⟨LA, LB⟩
  ihave LA := (some'_intro c (halfOf lM 0 0) _) $$ LA
  ihave LB := (some'_intro c (halfOf lM 0 1) _) $$ LB
  iapply (seq c (wp_roundMid Wt Ct K c (k0_pay2 v8) (keepOf (meWord c) v8 (table Ct)) X fullShare _ 1 2 2 6 10 14 _ _ (Wt (up c 6)) (Wt (up c 2)) (some' c (halfOf lM 0 1)) (some' c (halfOf lM 0 0)) (plan.drop 20)
    (fun i hi => amt_slot i (by revert i; decide)) (by decide) (pay2 Wt Ct c) (pay10 Wt Ct c)
    (by
      rw [pay6, up_up, up_up, show 1 + 5 = 6 from rfl, show 1 + 7 = 8 from rfl, up_eight])
    (by
      rw [pay14, up_up, up_up, show 7 + 3 = 2 + 8 from rfl, show 7 + 1 = 8 from rfl, up_eight, up_add_eight]))) $$ [R1 L1 DR2 DL2 LA LB HX HY HO G3]
  · isplitr; · iexact He
    isplitl [R1]; · iexact R1
    isplitl [L1]; · iexact L1
    isplitl [DR2 LB]
    · isplitl [DR2]; · iexact DR2
      iexact LB
    isplitl [DL2 LA]
    · isplitl [DL2]; · iexact DL2
      iexact LA
    isplitl [HX]; · iexact HX
    isplitl [HY]; · iexact HY
    isplitl [HO]; · iexact HO
    iexact G3
  rw [pay6, pay14]
  iintro %_ ⟨HO, O3, R1, L1, ⟨R2, D1⟩, ⟨L2, D0⟩, HX, HY⟩
  ihave HF := (wp_roundLast Wt Ct K c (k0_pay2 v8) (keepOf (meWord c) v8 (table Ct)) X fullShare _ (originOf (Scalar.subi (meWord c) 3#32)) (originOf (Scalar.addi (meWord c) 3#32))
    (originOf (Scalar.subi (meWord c) 4#32))) $$ [R2 L2 D0 D1 HX HY HO G4]
  · isplitr; · iexact He
    isplitl [R2]; · iexact R2
    isplitl [L2]; · iexact L2
    isplitl [D0]; · iexact D0
    isplitl [D1]; · iexact D1
    isplitl [HX]; · iexact HX
    isplitl [HY]; · iexact HY
    isplitl [HO]; · iexact HO
    iexact G4
  iapply (wp_wand _ _ _) $$ HF
  iintro %_ ⟨HO, O4, R2, L2, L0, HX, HY⟩
  isplitl [HO]; · iexact HO
  isplitl [OB OX O1 O2 O3 O4]
  · unfold each four roundOut over
    icases OX with ⟨⟨S1, V1⟩, ⟨S2, V2⟩, ⟨S3, V3⟩, ⟨S4, V4⟩, ⟨S5, V5⟩, ⟨S6, V6⟩, ⟨S7, V7⟩⟩
    isplitl [OB]; · iexact OB
    isplitl [O1]; · iexact O1
    isplitl [O2]; · iexact O2
    isplitl [O3]; · iexact O3
    isplitl [O4]; · iexact O4
    isplitl [S1 S2 S3 S4 S5 S6 S7]
    · isplitl [S1]; · iexact S1
      isplitl [S2]; · iexact S2
      isplitl [S3]; · iexact S3
      isplitl [S4]; · iexact S4
      isplitl [S5]; · iexact S5
      isplitl [S6]; · iexact S6
      iexact S7
    isplitl [V1]; · iexact V1
    isplitl [V2]; · iexact V2
    isplitl [V3]; · iexact V3
    isplitl [V4]; · iexact V4
    isplitl [V5]; · iexact V5
    isplitl [V6]; · iexact V6
    iexact V7
  isplitl [HX]; · iexact HX
  isplitl [HE]; · iexact HE
  isplitl [HW]; · iexact HW
  isplitl [HY]
  · iapply (outs_join c (outQ Wt Ct c X v8)); iexact HY
  isplitl [R0 R1 R2]
  · isplitl [R0]; · iapply (some'_intro c (slotOf rM 0) _); iexact R0
    isplitl [R1]; · iapply (some'_intro c (slotOf rM 1) _); iexact R1
    iapply (some'_intro c (slotOf rM 2) _); iexact R2
  isplitl [L0 L1 L2]
  · isplitl [L0]; · iapply (some'_intro c (slotOf lM 0) _); iexact L0
    isplitl [L1]; · iapply (some'_intro c (slotOf lM 1) _); iexact L1
    iapply (some'_intro c (slotOf lM 2) _); iexact L2
  iexists (table Ct); iexact HC
end Body

end Cert.KernelIdeal.Moe

end
-- ==== Proof.DealIdeal.lean ====
/-
The launch's ghost state: every device's cells set up, the tokens of the payments dealt to their payers, and the
credit of what the devices owe each other.
-/
module

public import proofs.«01_k».proof.Proof.BodyIdeal

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums over a device's cells -/

/-- Something for every cell: for the barrier's and for every transfer's. -/
theorem bigSep_opt (f : Option (Fin 30) → sProp 𝕄) : bigSep Finset.univ f = iprop(f none ∗ bigSep Finset.univ fun i : Fin 30 => f (some i)) := by
  rw [show (Finset.univ : Finset (Option (Fin 30))) = insert none (Finset.univ.map Function.Embedding.some) by decide, bigSep_insert (by decide), bigSep_map]
  rfl

/-- Something for every transfer cell, by rounds. -/
theorem bigSep_dmas (f : Fin 30 → sProp 𝕄) : bigSep Finset.univ f
    = iprop(four f 0 4 8 12 ∗ four f 1 5 9 13 ∗ four f 2 6 10 14 ∗ four f 3 7 11 15 ∗ each (fun J => f (cs J)) ∗ each (fun J => f (cr J))) := by
  rw [bigSep_univ_eq_bigSepL [0, 4, 8, 12, 1, 5, 9, 13, 2, 6, 10, 14, 3, 7, 11, 15,
    16, 17, 18, 19, 20, 21, 22, 23, 24, 25, 26, 27, 28, 29] (by decide) (by decide)]
  simp only [bigSepL_cons_cons, bigSepL_singleton]
  have ha (A B C : sProp 𝕄) : iprop((A ∗ B) ∗ C) = iprop(A ∗ B ∗ C) := BI.equiv_iff.mp ⟨BI.sep_assoc, BI.sep_assoc'⟩
  unfold four each
  simp only [ha]
  rfl

theorem each_eq (f : ℕ → sProp 𝕄) : each f = bigSep Finset.univ fun j : Fin 7 => f (j.val + 1) := by
  rw [bigSep_univ_eq_bigSepL [0, 1, 2, 3, 4, 5, 6] (by decide) (by decide)]
  simp only [bigSepL_cons_cons, bigSepL_singleton]
  rfl

/-! ## The cells and their tokens -/

theorem csem_injective : Function.Injective csem := by
  intro k k' h
  cases k <;> cases k'
  · rfl
  · cases h
  · cases h
  · exact congrArg some (dsem_injective (SemLoc.dma.inj h))

theorem kcell_injective : Function.Injective (kcell : Dev nD × Option (Fin 30) → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's own cells' tokens: its barrier's seven, its transfers' thirty. -/
abbrev tokOf (cj : Dev nD × (Fin 7 ⊕ Fin 30)) : GSem nD τ sig × ℕ × Fin 8 := match cj.2 with
  | .inl j => (barCell cj.1, 0, j.succ)
  | .inr i => (dCell cj.1 i, 0, 0)
theorem tokOf_injective : Function.Injective tokOf := by
  rintro ⟨c, j⟩ ⟨c', j'⟩ h
  have h1 : c = c' := by
    have := congrArg (fun x : GSem nD τ sig × ℕ × Fin 8 => x.1.1.1) h
    cases j <;> cases j' <;> exact this
  have h2 : j = j' := by
    have hs := congrArg (fun x : GSem nD τ sig × ℕ × Fin 8 => x.1.2) h
    have hd := congrArg (fun x : GSem nD τ sig × ℕ × Fin 8 => x.2.2) h
    cases j <;> cases j'
    · exact congrArg Sum.inl (Fin.succ_injective _ hd)
    · cases hs
    · cases hs
    · exact congrArg Sum.inr (dsem_injective (SemLoc.dma.inj hs))
  rw [h1, h2]
def allToks : Finset (GSem nD τ sig × ℕ × Fin 8) := Finset.univ.map ⟨tokOf, tokOf_injective⟩

/-- The way from a transfer's payer to the device of its cell. -/
def way (i : Fin 30) : ℕ :=
  if i.val < 4 then 0 else if i.val < 8 then 1 else if i.val < 12 then 0 else if i.val < 16 then 7 else if i.val < 23 then 0 else i.val - 22
theorem way_le (i : Fin 30) : way i ≤ 8 := by revert i; decide

/-- The tokens of device `c`'s own cells. -/
def toks (c : Dev nD) : sProp 𝕄 :=
  iprop(each (fun J => dutyTok ER (barCell c) 0 (Fin.ofNat 8 J)) ∗ bigSep Finset.univ fun i : Fin 30 => dutyTok ER (dCell c i) 0 0)
/-- The tokens device `c` pays with. -/
def payToks (c : Dev nD) : sProp 𝕄 :=
  iprop(each (sigTok c) ∗ bigSep Finset.univ fun i : Fin 30 => dutyTok ER (dCell (up c (way i)) i) 0 0)

/-- Every device's things dealt along the rings, each kind its own way round. -/
theorem deal {A : Type} [Fintype A] [DecidableEq A] (w : A → ℕ) (hw : ∀ a, w a ≤ 8) (f : Dev nD → A → sProp 𝕄) :
    (bigSep Finset.univ fun c : Dev nD => bigSep Finset.univ fun a : A => f c a) = bigSep Finset.univ fun c : Dev nD => bigSep Finset.univ fun a : A => f (up c (w a)) a := by
  have h1 := bigSep_univ_prod (fun x : Dev nD × A => f x.1 x.2)
  have h2 := bigSep_univ_prod (fun x : Dev nD × A => f (up x.1 (w x.2)) x.2)
  have h3 := bigSep_univ_equiv ((Equiv.prodComm (Dev nD) A).trans ((Equiv.prodShear (Equiv.refl A) fun a => walk (w a) (hw a)).trans (Equiv.prodComm A (Dev nD))))
    (fun x : Dev nD × A => f x.1 x.2)
  exact h1.symm.trans (h3.trans h2)

/-- The tokens dealt to their payers. -/
theorem toks_around : (bigSep Finset.univ fun c : Dev nD => (toks c : sProp 𝕄)) = bigSep Finset.univ fun c : Dev nD => payToks c := by
  have h1 : (bigSep Finset.univ fun c : Dev nD => each fun J => (dutyTok ER (barCell c) 0 (Fin.ofNat 8 J) : sProp 𝕄)) = bigSep Finset.univ fun c : Dev nD => each (sigTok c) := by
    simp only [each_eq]
    exact deal (fun j : Fin 7 => j.val + 1) (fun j => by have := j.isLt; omega) fun c j => dutyTok ER (barCell c) 0 (Fin.ofNat 8 (j.val + 1))
  unfold toks payToks
  rw [bigSep_sep', bigSep_sep', h1, deal way way_le fun c i => (dutyTok ER (dCell c i) 0 0 : sProp 𝕄)]

section Deal
variable (Wt : Dev nD → S4x512x1024.Idx → Elt F .bf16) (Ct : Dev nD → S1x32.Idx → Elt F .i32)

/-- What the launch deals device `c`. -/
def G (c : Dev nD) : sProp 𝕄 :=
  iprop((bigSep Finset.univ fun k => roundState ER (sched Wt Ct) (kcell (c, k)) 0)
    ∗ (bigSep Finset.univ fun k => iprop(atPos ER (kcell (c, k)) 0 ∅ 0 ∗ reached ER (kcell (c, k)) 0)) ∗ toks c)
/-- What stays with it: its cells' positions and the tokens it pays with. -/
def linear (c : Dev nD) : sProp 𝕄 := iprop((bigSep Finset.univ fun k => atPos ER (kcell (c, k)) 0 ∅ 0) ∗ payToks c)
def G' (c : Dev nD) : sProp 𝕄 := iprop(∃ K, records Wt Ct K ∗ linear c)

theorem fund_all : BI.own (ER (initOf allCells allToks)) ⊢ (|==> bigSep Finset.univ (G Wt Ct) : sProp 𝕄) := by
  have hX (Φ : GSem nD τ sig → sProp 𝕄) : bigSep allCells Φ = bigSep Finset.univ fun c : Dev nD => bigSep Finset.univ fun k : Option (Fin 30) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, each_eq]
    have hj (j : Fin 7) : j.succ = Fin.ofNat 8 (j.val + 1) := by revert j; decide
    show iprop((bigSep Finset.univ fun j : Fin 7 => dutyTok ER (barCell c) 0 j.succ) ∗ _) = _
    simp only [hj]
    rfl
  iintro HX
  imod (Rounds.fund ER (sched Wt Ct) allCells allToks) $$ HX with ⟨Hst, Hr, Hat, Htok⟩
  imodintro
  ihave Hst := (Entails.of_eq (hX fun g => roundState ER (sched Wt Ct) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-- The body's own semaphores are its transfers'. -/
abbrev osem : Fin 30 → SemLoc sig := fun i => .dma (dsem i)

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) : (bigSep Finset.univ fun k => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_opt, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G Wt Ct c)
      ⊢ |={Set.univ}=> iprop((bigSep Finset.univ fun k => iprop(∃ κ : ℕ, cellInv ER (sched Wt Ct) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k => semVal (kcell (c, k)) 0) ∗ bigSep Finset.univ fun k => roundState ER (sched Wt Ct) (kcell (c, k)) 0)
      ⊢ (|={Set.univ}=> bigSep Finset.univ fun k => iprop(∃ κ : ℕ, cellInv ER (sched Wt Ct) κ (kcell (c, k))) : sProp 𝕄) from by
        rw [← bigSep_sep']
        exact (bigSep_mono fun k _ => (Rounds.body_intro ER (sched Wt Ct) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (sched Wt Ct) κ (kcell (c, k))))
          ∗ (bigSep Finset.univ fun k => iprop(atPos ER (kcell (c, k)) 0 ∅ 0 ∗ reached ER (kcell (c, k)) 0)) ∗ toks c) : sProp 𝕄)
      ⊢ bigSep Finset.univ (G' Wt Ct) := by
  rw [bigSep_sep', bigSep_sep', ← bigSep_univ_prod (fun ck : Dev nD × Option (Fin 30) => iprop(∃ κ : ℕ, cellInv ER (sched Wt Ct) κ (kcell ck))),
    bigSep_congr (s := Finset.univ) (fun (c : Dev nD) _ => bigSep_sep' Finset.univ (fun k : Option (Fin 30) => (atPos ER (kcell (c, k)) 0 ∅ 0 : sProp 𝕄)) (fun k => reached ER (kcell (c, k)) 0)),
    bigSep_sep', ← bigSep_univ_prod (fun ck : Dev nD × Option (Fin 30) => (reached ER (kcell ck) 0 : sProp 𝕄)), toks_around]
  iintro ⟨HI, ⟨Hat, #HR⟩, Htk⟩
  ihave HK := (BI.bigSep_exists_pi Finset.univ (fun (ck : Dev nD × Option (Fin 30)) (κ : ℕ) => (cellInv ER (sched Wt Ct) κ (kcell ck) : sProp 𝕄))) $$ HI
  icases HK with ⟨%K, #HI⟩
  iapply (BI.bigSep_with_persistent (R := records Wt Ct K) (Φ := linear) fun c _ => show iprop(records Wt Ct K ∗ linear c) ⊢ G' Wt Ct c from by
    unfold G'; iintro H; iexists K; iexact H)
  isplitr
  · unfold records; isplitl; · iexact HI
    iexact HR
  · unfold linear
    rw [bigSep_sep']
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G Wt Ct c) : sProp 𝕄)
    ⊢ |={Set.univ}=> bigSep Finset.univ (G' Wt Ct) :=
  ((bigSep_mono fun c _ => core_alloc Wt Ct c).trans (bigSep_fupd _ _)).trans (BI.fupd_mono (regroup Wt Ct))
end Deal

/-! ## The launch credit -/

/-- What one payment comes to over all devices, at a cell. -/
theorem sum_pay (k k' : Option (Fin 30)) (w : ℕ) (hw : w ≤ 8) (n : ℕ) (c : Dev nD) :
    (∑ d : Dev nD, (tallyAt (kcell (up d w, k')) () n : CellTallies nD τ sig Unit) (kcell (c, k)) ()) = if k' = k then n else 0 := by
  have h (d : Dev nD) : (tallyAt (kcell (up d w, k')) () n : CellTallies nD τ sig Unit) (kcell (c, k)) () = if d = (walk w hw).symm c then (if k' = k then n else 0) else 0 := by
    rw [tallyAt_apply]
    by_cases hd : d = (walk w hw).symm c
    · have hu : up d w = c := by rw [hd]; exact (walk w hw).apply_symm_apply c
      rw [if_pos hd, hu]
      by_cases hk : k' = k
      · rw [if_pos hk, hk, if_pos ⟨rfl, rfl⟩]
      · rw [if_neg hk, if_neg (fun h => hk (by have := kcell_injective h.1; exact (congrArg Prod.snd this).symm))]
    · rw [if_neg hd, if_neg (fun h => hd (by
        have := congrArg Prod.fst (kcell_injective h.1)
        rw [show c = up d w from this]; exact ((walk w hw).symm_apply_apply d).symm))]
  rw [Finset.sum_congr rfl fun d _ => h d, Finset.sum_ite_eq' Finset.univ, if_pos (Finset.mem_univ _)]

theorem sum_owe (k : Option (Fin 30)) (c : Dev nD) : ∀ l : List (Option (Fin 30) × ℕ), (∀ x ∈ l, x.2 ≤ 8) →
    (∑ d : Dev nD, owe d l (kcell (c, k)) ()) = l.countP (fun x => x.1 = k) * units k
  | [], _ => by rw [List.countP_nil, Nat.zero_mul]; exact Finset.sum_eq_zero fun _ _ => rfl
  | x :: l, h => by
    have ih := sum_owe k c l (fun y hy => h y (List.mem_cons_of_mem _ hy))
    have hx := sum_pay k x.1 x.2 (h x List.mem_cons_self) (units x.1) c
    rw [Finset.sum_congr rfl fun d _ => show owe d (x :: l) (kcell (c, k)) () = owe d l (kcell (c, k)) () + (tallyAt (kcell (up d x.2, x.1)) () (units x.1) : CellTallies nD τ sig Unit) (kcell (c, k)) () from rfl,
      Finset.sum_add_distrib, ih, hx, List.countP_cons]
    by_cases hk : x.1 = k
    · rw [if_pos hk, if_pos (decide_eq_true hk), hk, Nat.add_mul, Nat.one_mul]
    · rw [if_neg hk, if_neg (show ¬ decide (x.1 = k) = true from fun h => hk (of_decide_eq_true h)), Nat.add_zero, Nat.add_zero]

theorem launch_cell (c : Dev nD) (k : Option (Fin 30)) :
    tallyOn (kcell (c, k)) (launchCredit (Pipeline.owing fun d => owe d plan) 0 (kcell (c, k))) = (tallyAt (kcell (c, k)) () (plan.countP (fun x => x.1 = k) * units k) : CellTallies nD τ sig Unit) := by
  unfold tallyAt; refine congrArg _ (Finsupp.ext fun u => ?_); cases u
  rw [Pipeline.launchCredit_owing, Finsupp.single_eq_same, sum_owe k c plan (by decide)]

theorem creds (c : Dev nD) : (Pipeline.launchCred (fun d => owe d plan) c : sProp 𝕄)
    ⊢ bigSep Finset.univ fun k => cred (tallyAt (kcell (c, k)) () (plan.countP (fun x => x.1 = k) * units k)) := by
  unfold Pipeline.launchCred
  refine (bigSep_subset (Finset.subset_univ (Finset.univ.map ⟨csem, csem_injective⟩))).trans ?_
  rw [bigSep_map]
  exact bigSep_mono fun k _ => Entails.of_eq (congrArg cred (launch_cell c k))

theorem each_two {f g h : ℕ → sProp 𝕄} (H : ∀ j : Fin 7, iprop(f (j.val + 1) ∗ g (j.val + 1)) ⊢ h (j.val + 1)) : iprop(each f ∗ each g) ⊢ each h := by
  rw [each_eq, each_eq, each_eq, ← bigSep_sep']; exact bigSep_mono fun j _ => H j

section Shares
variable (c : Dev nD)

/-- A device's positions, tokens and credit at its transfer cells. -/
abbrev posOf (i : Fin 30) : sProp 𝕄 := atPos ER (kcell (c, some i)) 0 ∅ 0
abbrev tokenOf (i : Fin 30) : sProp 𝕄 := dutyTok ER (dCell (up c (way i)) i) 0 0
abbrev credOf (i : Fin 30) : sProp 𝕄 := cred (tallyAt (kcell (c, some i)) () (plan.countP (fun x => x.1 = some i) * units (some i)))

theorem send_share (i : Fin 30) (hi : way i = 0) : iprop(tokenOf c i ∗ posOf c i) ⊢ (sendTok c i : sProp 𝕄) := by
  unfold tokenOf; rw [hi, up_zero]; exact .rfl
theorem recv_share (i : Fin 30) (k : ℕ) (hi : way i = k) : tokenOf c i ⊢ (recvTok c k i : sProp 𝕄) := by
  unfold tokenOf; rw [hi]; exact .rfl
theorem ready_share (i : Fin 30) (hi : plan.countP (fun x => x.1 = some i) = 1) : iprop(credOf c i ∗ posOf c i) ⊢ (ready c i : sProp 𝕄) := by
  unfold credOf; rw [hi, Nat.one_mul]; exact .rfl

theorem round_share (i0 i1 i2 i3 : Fin 30) (h0 : way i0 = 0) (h1 : way i1 = 1) (h2 : way i2 = 0) (h3 : way i3 = 7)
    (n1 : plan.countP (fun x => x.1 = some i1) = 1) (n3 : plan.countP (fun x => x.1 = some i3) = 1) :
    iprop(four (posOf c) i0 i1 i2 i3 ∗ four (tokenOf c) i0 i1 i2 i3 ∗ four (credOf c) i0 i1 i2 i3) ⊢ (roundIn c i0 i1 i2 i3 : sProp 𝕄) := by
  unfold four roundIn
  iintro ⟨⟨P0, P1, P2, P3⟩, ⟨T0, T1, T2, T3⟩, -, C1, -, C3⟩
  isplitl [P0 T0]
  · iapply (send_share c i0 h0); isplitl [T0]; · iexact T0
    iexact P0
  isplitl [T1]
  · iapply (recv_share c i1 1 h1); iexact T1
  isplitl [P2 T2]
  · iapply (send_share c i2 h2); isplitl [T2]; · iexact T2
    iexact P2
  isplitl [T3]
  · iapply (recv_share c i3 7 h3); iexact T3
  isplitl [P1 C1]
  · iapply (ready_share c i1 n1); isplitl [C1]; · iexact C1
    iexact P1
  iapply (ready_share c i3 n3); isplitl [C3]; · iexact C3
  iexact P3

/-- Device `c`'s share of the protocol from its positions, its tokens and its credit. -/
theorem ghost_intro : iprop(linear c ∗ Pipeline.launchCred (fun d => owe d plan) c) ⊢ (ghost c : sProp 𝕄) := by
  refine (BIClass.sep_mono .rfl (creds c)).trans ?_
  unfold linear payToks ghost
  rw [bigSep_cells, bigSep_cells, bigSep_dmas]
  iintro ⟨⟨⟨PB, P0, P1, P2, P3, PS, PR⟩, TB, T0, T1, T2, T3, TS, TR⟩, CB, C0, C1, C2, C3, -, CR⟩
  isplitl [TB CB PB]
  · isplitl [TB]; · iexact TB
    isplitl [CB]; · iexact CB
    iexact PB
  isplitl [TS TR PS PR CR]
  · isplitl [TS PS]
    · iapply (each_two (f := fun J => tokenOf c (cs J)) (g := fun J => posOf c (cs J)) fun j => send_share c (cs (j.val + 1)) (by revert j; decide))
      isplitl [TS]; · iexact TS
      iexact PS
    isplitl [TR]
    · iapply (show (each (fun J => tokenOf c (cr J)) : sProp 𝕄) ⊢ each (fun J => recvTok c J (cr J)) from by
        rw [each_eq, each_eq]; exact bigSep_mono fun j _ => recv_share c (cr (j.val + 1)) (j.val + 1) (by revert j; decide))
      iexact TR
    · iapply (each_two (f := fun J => credOf c (cr J)) (g := fun J => posOf c (cr J)) fun j => ready_share c (cr (j.val + 1)) (by revert j; decide))
      isplitl [CR]; · iexact CR
      iexact PR
  isplitl [P0 T0 C0]
  · iapply (round_share c 0 4 8 12 rfl rfl rfl rfl rfl rfl)
    isplitl [P0]; · iexact P0
    isplitl [T0]; · iexact T0
    iexact C0
  isplitl [P1 T1 C1]
  · iapply (round_share c 1 5 9 13 rfl rfl rfl rfl rfl rfl)
    isplitl [P1]; · iexact P1
    isplitl [T1]; · iexact T1
    iexact C1
  isplitl [P2 T2 C2]
  · iapply (round_share c 2 6 10 14 rfl rfl rfl rfl rfl rfl)
    isplitl [P2]; · iexact P2
    isplitl [T2]; · iexact T2
    iexact C2
  iapply (round_share c 3 7 11 15 rfl rfl rfl rfl rfl rfl)
  isplitl [P3]; · iexact P3
  isplitl [T3]; · iexact T3
  iexact C3
end Shares

end Cert.KernelIdeal.Moe

end
-- ==== Proof.LaunchIdeal.lean ====
/-
The launch: the pipeline's proof data, the body's obligation, and the run of @main: every device's output, the
arguments unchanged, every counter at zero.
-/
module

public import proofs.«01_k».proof.Proof.DealIdeal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Quiescent
public import Idealize.ShloMosaic.Lib.Pipeline.ValueKit
public import Idealize.ShloMosaic.Lib.Pipeline.CollectiveSegs
public import Idealize.ShloMosaic.Lib.Rounds.Family

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## What the devices hold -/

/-- The tokens, their experts and the weights staged on device `c`. -/
def xOf (c : Dev nD) : S2048x512.Idx → Elt F .bf16 := (win0_0.blk (0 : Fin 1)).view.read (Elt F) (m ((c : Thread nD τ).loc main_arg0))
def eOf (c : Dev nD) : S2048x1.Idx → Elt F .i32 := (win0_1.blk (0 : Fin 1)).view.read (Elt F) (m ((c : Thread nD τ).loc main_arg2))
def wOf (c : Dev nD) : S4x512x1024.Idx → Elt F .bf16 := (win0_2.blk (0 : Fin 1)).view.read (Elt F) (m ((c : Thread nD τ).loc main_arg3))
/-- Its tokens' counts by expert. -/
def cOf (c : Dev nD) : S1x32.Idx → Elt F .i32 := k0_pay4 (eOf m c)
/-- Its output. -/
def outOf (c : Dev nD) : S2048x1024.Idx → Elt F .f32 := glue (outQ (wOf m) (cOf m) c (xOf m c) (eOf m c))

/-! ## The pipeline's proof data -/

/-- Before the point: the device's share of the protocol and its buffers. -/
def Φ₀ (c : Dev nD) : sProp 𝕄 :=
  iprop(((∃ K, records (wOf m) (cOf m) K) ∗ levAts L lv ∗ ghost c) ∗ slots c rM ∗ slots c lM ∗ some' c cM)
/-- After it: its buffers and every counter at zero. -/
def Φ₁ (c : Dev nD) : sProp 𝕄 :=
  iprop((bigSep Finset.univ fun k => semVal (kcell (c, k)) 0) ∗ slots c rM ∗ slots c lM ∗ some' c cM)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => eOf m c
    | ⟨2, _⟩ => wOf m c
    | ⟨3, _⟩ => outOf m c
  Φ t := match t with
    | ⟨0, _⟩ => Φ₀ m c
    | ⟨_ + 1, _⟩ => Φ₁ c
  q _ := fullShare
  owed t := match t with
    | ⟨0, _⟩ => owe c plan
    | ⟨_ + 1, _⟩ => 0

/-! ## The body's obligation -/

theorem before_x (c : Dev nD) (d) : (dats m 0 c).before (0 : Fin 4) t0_0 d = xOf m c := by
  unfold Dat.before; rw [if_pos (fetch0_0 t0_0)]; rfl
theorem before_e (c : Dev nD) (d) : (dats m 0 c).before (1 : Fin 4) t0_0 d = eOf m c := by
  unfold Dat.before; rw [if_pos (fetch0_1 t0_0)]; rfl
theorem before_w (c : Dev nD) (d) : (dats m 0 c).before (2 : Fin 4) t0_0 d = wOf m c := by
  unfold Dat.before; rw [if_pos (fetch0_2 t0_0)]; rfl

theorem wp_point (c : Dev nD) :
    iprop(Φ₀ m c ∗ Owes (F := F) c plan ∗ owns (c : Thread nD τ) xM fullShare (xOf m c) ∗ owns (c : Thread nD τ) eM fullShare (eOf m c) ∗ owns (c : Thread nD τ) wM fullShare (wOf m c) ∗ some' c oM)
      ⊢ WP c prog fun _ => iprop(Φ₁ c ∗ Owes (F := F) c [] ∗ owns (c : Thread nD τ) xM fullShare (xOf m c) ∗ owns (c : Thread nD τ) eM fullShare (eOf m c) ∗ owns (c : Thread nD τ) wM fullShare (wOf m c)
          ∗ owns (c : Thread nD τ) oM fullShare (outOf m c)) := by
  unfold Φ₀
  iintro ⟨⟨⟨⟨%K, #HK⟩, #HL, HG⟩, HR, HLf, HC⟩, HO, HX, HE, HW, HY⟩
  ihave H := (wp_prog (wOf m) (cOf m) K c (xOf m c) (eOf m c) rfl) $$ [HG HR HLf HC HO HX HE HW HY]
  · isplitr
    · unfold env; isplitr; · iexact HK
      iexact HL
    isplitl [HG]; · iexact HG
    isplitl [HO]; · iexact HO
    isplitl [HX]; · iexact HX
    isplitl [HE]; · iexact HE
    isplitl [HW]; · iexact HW
    isplitl [HY]; · iexact HY
    isplitl [HR]; · iexact HR
    isplitl [HLf]; · iexact HLf
    iexact HC
  unfold WP
  iapply (wp_fupd _ _)
  iapply (wp_wand _ _ _) $$ H
  iintro %_ ⟨HO, HP, HX, HE, HW, HY, HR, HLf, HC⟩
  have hI (k : Option (Fin 30)) : records (wOf m) (cOf m) K ⊢ cellInv ER (sched (wOf m) (cOf m)) (K (c, k)) (kcell (c, k)) := by
    unfold records
    have h : (bigSep Finset.univ fun ck => (cellInv ER (sched (wOf m) (cOf m)) (K ck) (kcell ck) : sProp 𝕄)) ⊢ cellInv ER (sched (wOf m) (cOf m)) (K (c, k)) (kcell (c, k)) :=
      bigSep_elim (Finset.mem_univ (c, k))
    iintro ⟨H, -⟩; iapply h; iexact H
  imod (Rounds.cells_close ER (sched (wOf m) (cOf m)) Finset.univ (fun k => kcell (c, k)) (fun k => K (c, k)) (Es := Set.univ) (fun _ _ => Set.mem_univ _)
    (fun _ _ h => h) (fun _ => 1) (fun k _ r hr => duties_later (wOf m) (cOf m) (kcell (c, k)) r hr)) $$ [HP] with HZ
  · iapply (bigSep_with_persistent (R := records (wOf m) (cOf m) K) (Φ := fun k => atPos ER (kcell (c, k)) 1 ∅ 0) fun k _ => sep_mono_left (hI k))
    isplitr; · iexact HK
    iexact HP
  imodintro
  unfold Φ₁
  isplitl [HZ HR HLf HC]
  · isplitl [HZ]; · iexact HZ
    isplitl [HR]; · iexact HR
    isplitl [HLf]; · iexact HLf
    iexact HC
  isplitl [HO]; · iexact HO
  isplitl [HX]; · iexact HX
  isplitl [HE]; · iexact HE
  isplitl [HW]; · iexact HW
  iexact HY

set_option maxRecDepth 100000 in
theorem body_obligation (c : Dev nD) : BodyObligation (dats m 0 c) (defs₀ (F := F)) Variants.none () Set.univ := fun t => by
  rw [fin_N0 t, bigSep_W0, bigSep_W0]
  show iprop(Φ₀ m c ∗ (dats m 0 c).owesAt () (t0_0 : Fin cfg0.N).castSucc
      ∗ (∃ d, owns (c : Thread nD τ) xM fullShare ((dats m 0 c).before (0 : Fin 4) t0_0 d)) ∗ (∃ d, owns (c : Thread nD τ) eM fullShare ((dats m 0 c).before (1 : Fin 4) t0_0 d))
      ∗ (∃ d, owns (c : Thread nD τ) wM fullShare ((dats m 0 c).before (2 : Fin 4) t0_0 d)) ∗ (∃ d, owns (c : Thread nD τ) oM fullShare ((dats m 0 c).before (3 : Fin 4) t0_0 d)))
    ⊢ WP c (bodyAt0 t0_0) fun _ => iprop(Φ₁ c ∗ (dats m 0 c).owesAt () (t0_0 : Fin cfg0.N).succ
      ∗ owns (c : Thread nD τ) xM fullShare (xOf m c) ∗ owns (c : Thread nD τ) eM fullShare (eOf m c) ∗ owns (c : Thread nD τ) wM fullShare (wOf m c)
      ∗ owns (c : Thread nD τ) oM fullShare (outOf m c))
  rw [body_eq]
  iintro ⟨HΦ, HO, ⟨%d0, HX⟩, ⟨%d1, HE⟩, ⟨%d2, HW⟩, ⟨%d3, HY⟩⟩
  rw [before_x, before_e, before_w]
  unfold Dat.owesAt Pipeline.owesWithin
  icases HO with ⟨%W, %hW, HO⟩
  ihave H := (wp_point m c) $$ [HΦ HO HX HE HW HY]
  · isplitl [HΦ]; · iexact HΦ
    isplitl [HO]
    · unfold Owes; iexists W; iexact HO
    isplitl [HX]; · iexact HX
    isplitl [HE]; · iexact HE
    isplitl [HW]; · iexact HW
    unfold some'; iexists _; iexact HY
  unfold WP
  iapply (wp_wand _ _ _) $$ H
  unfold Owes
  iintro %_ ⟨HΦ, ⟨%W', HO⟩, HX, HE, HW, HY⟩
  isplitl [HΦ]; · iexact HΦ
  isplitl [HO]
  · iexists W'
    isplitr; · ipureintro; exact fun _ _ => Or.inl trivial
    iexact HO
  isplitl [HX]; · iexact HX
  isplitl [HE]; · iexact HE
  isplitl [HW]; · iexact HW
  iexact HY

/-! ## The launch's side conditions -/

theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What each device starts from. -/
def start (c : Dev nD) : sProp 𝕄 := iprop((∃ K, records (wOf m) (cOf m) K) ∗ levAts L lv ∗ ghost c)
/-- The argument the kernel does not read, kept aside. -/
def aside (c : Dev nD) : sProp 𝕄 := iprop(((c : Thread nD τ).loc main_arg1) ↦{fullShare} m ((c : Thread nD τ).loc main_arg1))

theorem start_intro (c : Dev nD) :
    iprop(Pipeline.unscopedRestP Pipeline.Prefetch.none cfg0.spec c (fun b => m ((c : Thread nD τ).loc b)) ∗ levAts L lv
        ∗ Pipeline.launchCred (fun d => owe d plan) c ∗ prngReg c (ρ c) ∗ G' (wOf m) (cOf m) c)
      ⊢ |={Set.univ}=> iprop(start m c ∗ aside m c) := by
  rw [Pipeline.unscopedRestP_none, unscopedRest0_eq]
  unfold G'
  iintro ⟨Ha, Hlev, Hcr, -, %K, HK, Hl⟩
  ihave HG := (ghost_intro (F := F) c) $$ [Hcr Hl]
  · isplitl [Hl]; · iexact Hl
    iexact Hcr
  imodintro
  unfold start aside
  isplitr [Ha]
  · isplitl [HK]; · iexists K; iexact HK
    isplitl [Hlev]; · iexact Hlev
    iexact HG
  iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨Hs, -, ⟨%f, Hr⟩, ⟨%g, Hl⟩, ⟨%h, Hc⟩⟩
  isplitl [Hs]; · iexact Hs
  isplitl [Hr]
  · iapply (slots_of c rM f); rw [owns_whole]; iexact Hr
  isplitl [Hl]
  · iapply (slots_of c lM g); rw [owns_whole]; iexact Hl
  iapply (some'_intro c cM h); rw [owns_whole]; iexact Hc

theorem whole_pts (c : Dev nD) (b : Ref sig .tc) (f : Buf (Elt F) ((c : Thread nD τ).loc b)) :
    ((Memref.whole b).view.loc (c : Thread nD τ) ↦[(Memref.whole b).view.set]{fullShare} f : sProp 𝕄) = iprop(((c : Thread nD τ).loc b) ↦{fullShare} f) := by
  show ((c : Thread nD τ).loc b ↦[(View.whole b).set]{fullShare} f : sProp 𝕄) = _
  rw [View.set_whole]

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [sems0_eq]
  iintro ⟨⟨HU, HS⟩, Hr, Hl, Hc⟩
  ihave Hr := (slots_join c rM fun _ => Classical.arbitrary _) $$ Hr
  ihave Hl := (slots_join c lM fun _ => Classical.arbitrary _) $$ Hl
  unfold some'
  icases Hr with ⟨%f, Hr⟩; icases Hl with ⟨%g, Hl⟩; icases Hc with ⟨%h, Hc⟩
  isplitl [HU]; · iexact HU
  isplitl [HS]; · iexact HS
  isplitl [Hr]
  · iexists f; iapply (Entails.of_eq (whole_pts c cc0_scratch0 f)); iexact Hr
  isplitl [Hl]
  · iexists g; iapply (Entails.of_eq (whole_pts c cc0_scratch1 g)); iexact Hl
  iexists h; rw [← owns_whole]; iexact Hc

theorem waits (c : Dev nD) : (levAts L lv : sProp 𝕄) ⊢ Pipeline.cellsWaits cfgs (dats m) () 0 c :=
  Pipeline.cellsWaits_intro cfgs (dats m) () 0 c fun w s t => by
    have hn : lv ((c : Thread nD τ), SemLoc.dma ((cfg0.win w).sem s)) () ≤ 0 := by fin_cases w <;> fin_cases s <;> exact Nat.le_of_eq rfl
    rcases t with ⟨_ | _, ht⟩
    · exact mayWait c _ 0 hn plan (by decide)
    · exact mayWait c _ 0 hn [] (by decide)

/-! ## The run -/

def finalA (c : Dev nD) (w : Fin cfg0.W) : Buf (Elt F) ((cfg0.win w).arr.view.loc (c : Thread nD τ)) := (dats m 0 c).arrAt w cfg0.N

def Post (s : MemSt nD τ sig (Elt F)) : Prop := ∀ c : Dev nD,
  (∀ w : Fin cfg0.W, s.mem ((cfg0.win w).arr.view.loc (c : Thread nD τ)) = finalA m c w)
    ∧ s.mem ((c : Thread nD τ).loc main_arg1) = m ((c : Thread nD τ).loc main_arg1)

set_option maxRecDepth 8000 in
theorem run_main : θ_run defs (onTc (τ := τ) (main (F := F))) ⟨m, fun _ => 0, ρ⟩ (fun r => Post m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := fun c => (body_obligation m c).loose) (hne := block_pos0) (harr := arr_whole0) (hstage := stage_whole0) (hshare := share_eq m)
    (hdistinct := winFacts0.arr_inj)
    (O₀ := fun d => owe d plan) (howed₀ := fun _ => rfl) (howedN := fun _ => rfl)
    (L := L) (lv := lv) (hL := L_of_ne) (hwaits := waits m)
    (G := G (wOf m) (cOf m)) (G' := G' (wOf m) (cOf m)) (u₀ := u₀)
    (hu₀ := by
      unfold u₀
      iintro Hu
      ihave H := (ownU_pair _ _) $$ Hu
      icases H with ⟨HP, HX⟩
      imod (fund_all (wOf m) (cOf m)) $$ HX with HG
      imodintro
      isplitl [HP] <;> iassumption)
    (hglob := glob (wOf m) (cOf m))
    (hA := fun _ _ => rfl) (hpf := fun _ k => k.elim0)
    (X := start m) (Y := fun c => unscopedSems0 c) (Z := aside m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold aside
      iintro ⟨Hu, Ha, HSI⟩
      ihave %ha := (SI_pointsTo_agree (st := s')) $$ [HSI Ha]
      · isplitl [HSI] <;> iassumption
      imod (Pipeline.unscopedSems0_read (X := unscopedSems0 c) (c := c) fupd_intro s') $$ [Hu HSI] with ⟨%hz, HSI⟩
      · isplitl [Hu] <;> iassumption
      imodintro
      isplitr
      · ipureintro; exact ⟨hz, funext fun i => ha i (Finset.mem_univ i)⟩
      iexact HSI)
    (hQ := fun _ h hs => ⟨fun c => ⟨fun w => (h c).1 w, (h c).2.2.2⟩, sem_eq_zero hs fun c => (h c).2.2.1⟩)

theorem finalA_out (c : Dev nD) : finalA m c (3 : Fin 4) = outOf m c := by
  refine (dats m 0 c).arrAt_eq_of_after_last (3 : Fin 4) t0_0 (by decide +kernel) _ fun j => ?_
  blk_simp
  rfl

/-- What the devices stage is their arrays. -/
theorem xOf_eq (c : Dev nD) : xOf m c = m ((c : Thread nD τ).loc main_arg0) := by
  have h (a) : win0_0.index (0 : Fin 1) a = 0 := by revert a; decide +kernel
  funext j; unfold xOf; blk_simp
  exact congrArg _ (funext fun a => Fin.ext (by blk_simp [h]))
theorem eOf_eq (c : Dev nD) : eOf m c = m ((c : Thread nD τ).loc main_arg2) := by
  have h (a) : win0_1.index (0 : Fin 1) a = 0 := by revert a; decide +kernel
  funext j; unfold eOf; blk_simp
  exact congrArg _ (funext fun a => Fin.ext (by blk_simp [h]))
theorem wOf_eq (c : Dev nD) : wOf m c = m ((c : Thread nD τ).loc main_arg3) := by
  have h (a) : win0_2.index (0 : Fin 1) a = 0 := by revert a; decide +kernel
  funext j; unfold wOf; blk_simp
  exact congrArg _ (funext fun a => Fin.ext (by blk_simp [h]))

/-- The run: every device's output, the arguments unchanged, every counter at zero. -/
theorem run : θ_run defs (onTc (τ := τ) (main (F := F))) ⟨m, fun _ => 0, ρ⟩ (fun r =>
    (∀ c : Dev nD, r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).1 (3 : Fin 4)).trans (finalA_out m c), ((h.1 c).1 (0 : Fin 4)).trans ((dats m 0 c).arrAt_in (0 : Fin 4) rfl _),
    (h.1 c).2, ((h.1 c).1 (1 : Fin 4)).trans ((dats m 0 c).arrAt_in (1 : Fin 4) rfl _), ((h.1 c).1 (2 : Fin 4)).trans ((dats m 0 c).arrAt_in (2 : Fin 4) rfl _)⟩, h.2⟩) (run_main m ρ)

end Cert.KernelIdeal.Moe

end
-- ==== Proof.RankIdeal.lean ====
/-
The place of a token among its expert's tokens: the kernel's shifted additions are running sums, and its rows and
columns add up as sums of words.
-/
module

public import proofs.«01_k».proof.Proof.ProgramIdeal
public import Idealize.ShloMosaic.Lib.Pipeline.ValueKit
public import Idealize.ShloMosaic.Lib.ValueIdx
public import Idealize.ShloMosaic.Lib.WordSum
public import Idealize.ShloMosaic.Lib.Routing.OpsOne

@[expose] public section

noncomputable section

namespace Cert.KernelIdeal.Moe

open Cert.KernelIdeal Cert.KernelIdeal.Gen
open Idealize.ShloMosaic hiding ix0 ix1 ix2 ix3
open Idealize.ShloMosaic.ValueIdx

/-! ## Running sums by shifted additions -/

/-- A matrix moved `w` rows down, zeros above. -/
theorem shift_apply (w v : ℕ) (X : IVec S2048x32 32) (hs : S2048x32.Slices ![0, 0] (⟨2, ![v, 32]⟩ : Shape))
    (hc : Shape.Concatenates [(⟨2, ![w, 32]⟩ : Shape), (⟨2, ![v, 32]⟩ : Shape)] S2048x32 0) (hwv : w + v = 2048) (r : Fin 2048) (e : Fin 32) :
    concatenate S2048x32 0 [⟨(⟨2, ![w, 32]⟩ : Shape), broadcast (⟨2, ![w, 32]⟩ : Shape) 0#32⟩,
        ⟨(⟨2, ![v, 32]⟩ : Shape), extractStridedSlice (⟨2, ![v, 32]⟩ : Shape) ![0, 0] X hs⟩] hc (ix2 r e)
      = if h : w ≤ r.val then X (ix2 ⟨r.val - w, by omega⟩ e) else 0#32 := by
  by_cases h : w ≤ r.val
  · rw [dif_pos h]
    refine (concatenate_pair_apply_right (t := S2048x32) 0 _ _ hc (ix2 r e) rfl rfl (ix2 (n0 := v) (n1 := 32) ⟨r.val - w, by omega⟩ e) (fun b hb => ?_) ?_).trans ?_
    · match b with
      | ⟨0, _⟩ => exact absurd rfl hb
      | ⟨1, _⟩ => rfl
    · show r.val - w + w = r.val
      omega
    · refine extractStridedSlice_apply _ _ _ _ _ fun a => ?_
      match a with
      | ⟨0, _⟩ => exact (Nat.zero_add _).symm
      | ⟨1, _⟩ => exact (Nat.zero_add _).symm
  · rw [dif_neg h]
    refine (concatenate_pair_apply_left (t := S2048x32) 0 _ _ hc (ix2 r e) rfl (ix2 (n0 := w) (n1 := 32) ⟨r.val, by omega⟩ e) fun b => ?_).trans rfl
    match b with
    | ⟨0, _⟩ => rfl
    | ⟨1, _⟩ => rfl

/-- Column `e` of a matrix of words, zero past the last row. -/
def col (Z : IVec S2048x32 32) (e : Fin 32) (n : ℕ) : BitVec 32 := if h : n < 2048 then Z (ix2 ⟨n, h⟩ e) else 0

/-- Each entry of `X` is the sum of the last `w` entries of `Z`'s column up to its own row. -/
def Window (Z : IVec S2048x32 32) (w : ℕ) (X : IVec S2048x32 32) : Prop :=
  ∀ (r : Fin 2048) (e : Fin 32), X (ix2 r e) = ∑ n ∈ Finset.Ico (r.val + 1 - w) (r.val + 1), col Z e n

theorem window_one (Z : IVec S2048x32 32) : Window Z 1 Z := fun r e => by
  rw [Nat.add_sub_cancel, Nat.Ico_succ_singleton, Finset.sum_singleton, col, dif_pos r.isLt]

/-- Adding a matrix moved down by the width of its windows doubles the width. -/
theorem Window.double {Z X : IVec S2048x32 32} {w : ℕ} (hX : Window Z w X) (v : ℕ) (hs : S2048x32.Slices ![0, 0] (⟨2, ![v, 32]⟩ : Shape))
    (hc : Shape.Concatenates [(⟨2, ![w, 32]⟩ : Shape), (⟨2, ![v, 32]⟩ : Shape)] S2048x32 0) (hwv : w + v = 2048) :
    Window Z (w + w) (addi X (concatenate S2048x32 0 [⟨(⟨2, ![w, 32]⟩ : Shape), broadcast (⟨2, ![w, 32]⟩ : Shape) 0#32⟩,
        ⟨(⟨2, ![v, 32]⟩ : Shape), extractStridedSlice (⟨2, ![v, 32]⟩ : Shape) ![0, 0] X hs⟩] hc)) := fun r e => by
  show X (ix2 r e) + _ = _
  rw [shift_apply w v X hs hc hwv, hX r e]
  by_cases h : w ≤ r.val
  · rw [dif_pos h, hX]
    show _ + ∑ n ∈ Finset.Ico (r.val - w + 1 - w) (r.val - w + 1), col Z e n = _
    rw [add_comm, show r.val - w + 1 = r.val + 1 - w by omega, Nat.sub_sub, Finset.sum_Ico_consecutive _ (by omega) (by omega)]
  · rw [dif_neg h, show r.val + 1 - w = r.val + 1 - (w + w) by omega]
    exact add_zero _

/-- The kernel's eleven shifted additions. -/
def runSum (Z : IVec S2048x32 32) : IVec S2048x32 32 :=
  have X := k0_pay6 Z
  have X := addi X (concatenate S2048x32 0 [⟨S64x32, k0_pay7⟩, ⟨S1984x32, k0_pay8 Z⟩] concatenates_S64x32_S1984x32_S2048x32_d0)
  have X := addi X (concatenate S2048x32 0 [⟨S128x32, broadcast S128x32 0#32⟩, ⟨S1920x32, extractStridedSlice S1920x32 ![0, 0] X slices_S2048x32_o0_0_S1920x32⟩] concatenates_S128x32_S1920x32_S2048x32_d0)
  have X := addi X (concatenate S2048x32 0 [⟨S256x32, broadcast S256x32 0#32⟩, ⟨S1792x32, extractStridedSlice S1792x32 ![0, 0] X slices_S2048x32_o0_0_S1792x32⟩] concatenates_S256x32_S1792x32_S2048x32_d0)
  have X := addi X (concatenate S2048x32 0 [⟨S512x32, broadcast S512x32 0#32⟩, ⟨S1536x32, extractStridedSlice S1536x32 ![0, 0] X slices_S2048x32_o0_0_S1536x32⟩] concatenates_S512x32_S1536x32_S2048x32_d0)
  addi X (concatenate S2048x32 0 [⟨S1024x32, broadcast S1024x32 0#32⟩, ⟨S1024x32, extractStridedSlice S1024x32 ![0, 0] X slices_S2048x32_o0_0_S1024x32⟩] concatenates_S1024x32_S1024x32_S2048x32_d0)

theorem window_pay6 (Z : IVec S2048x32 32) : Window Z 64 (k0_pay6 Z) :=
  ((((((window_one Z).double 2047 _ _ rfl).double 2046 _ _ rfl).double 2044 _ _ rfl).double 2040 _ _ rfl).double 2032 _ _ rfl).double 2016 _ _ rfl

theorem window_runSum (Z : IVec S2048x32 32) : Window Z 2048 (runSum Z) :=
  (((((window_pay6 Z).double 1984 slices_S2048x32_o0_0_S1984x32 _ rfl).double 1920 _ _ rfl).double 1792 _ _ rfl).double 1536 _ _ rfl).double 1024 _ _ rfl

/-- They leave the running sums of the columns. -/
theorem runSum_apply (Z : IVec S2048x32 32) (r : Fin 2048) (e : Fin 32) :
    runSum Z (ix2 r e) = ∑ n ∈ Finset.range (r.val + 1), col Z e n := by
  rw [window_runSum Z r e, show r.val + 1 - 2048 = 0 by omega, Nat.Ico_zero_eq_range]

/-! ## Sums over rows and columns -/

theorem fold_addi {ι : Type} (S : Finset ι) (f : ι → BitVec 32) : S.fold IntOp.addi 0#32 f = ∑ i ∈ S, f i := (Finset.sum_eq_fold S f).symm

/-- Adding up the columns of a matrix. -/
theorem sum_rows (n : ℕ) (Z : IVec (⟨2, ![n, 32]⟩ : Shape) 32) (h : (⟨2, ![n, 32]⟩ : Shape).Reduces [0] S32) (e : Fin 32) :
    multiReductionI .add [0] S32 Z 0#32 h rfl (ix1 e) = ∑ r : Fin n, Z (ix2 r e) := by
  pointwise
  exact fold_addi _ _

/-- Adding up the rows of a matrix. -/
theorem sum_cols (Z : IVec S2048x32 32) (h : S2048x32.Reduces [1] S2048) (r : Fin 2048) :
    multiReductionI .add [1] S2048 Z 0#32 h rfl (ix1 r) = ∑ e : Fin 32, Z (ix2 r e) := by
  pointwise
  exact fold_addi _ _

/-! ## The payloads at an index -/

/-- One when the word is the number of the expert, else zero. -/
def one (w : BitVec 32) (e : ℕ) : BitVec 32 := if w = BitVec.ofNat 32 e then 1#32 else 0#32

variable (E : Vec Ideal S2048x1 .i32)

theorem pay2_apply (r : Fin 2048) : k0_pay2 (F := Ideal) E (ix2 r (0 : Fin 1)) = E (ix2 r (0 : Fin 1)) :=
  shapeCast_apply E _ _ _ rfl

theorem setWidth_cmpi_eq (a b : BitVec 32) : BitVec.setWidth 32 (IntOp.cmpi .eq a b) = if a = b then 1#32 else 0#32 := by
  by_cases h : a = b
  · subst h; rw [if_pos rfl]; simp [IntOp.cmpi]
  · rw [if_neg h]
    show BitVec.setWidth 32 (BitVec.ofBool (a == b)) = 0#32
    rw [beq_eq_false_iff_ne.2 h]
    rfl

theorem pay3_apply (r : Fin 2048) (e : Fin 32) : k0_pay3 (F := Ideal) E (ix2 r e) = one (E (ix2 r (0 : Fin 1))) e.val := by
  pointwise [k0_pay3, k0_pay2]
  exact setWidth_cmpi_eq _ _

theorem cast_row (x : IVec S32 32) (e : Fin 32) : shapeCast S1x32 x shapeCasts_S32_S1x32 (ix2 (0 : Fin 1) e) = x (ix1 e) :=
  Routing.cast12 (a := 1) (b := 32) (n := 32) x _ 0 e e (by show e.val = 0 * 32 + e.val; omega)

theorem cast_col (x : IVec S2048 32) (r : Fin 2048) : shapeCast S2048x1 x shapeCasts_S2048_S2048x1 (ix2 r (0 : Fin 1)) = x (ix1 r) :=
  Routing.cast12 (a := 2048) (b := 1) (n := 2048) x _ r 0 r (by show r.val = r.val * 1 + 0; omega)

theorem pay4_apply (e : Fin 32) : k0_pay4 (F := Ideal) E (ix2 (0 : Fin 1) e) = ∑ r : Fin 2048, one (E (ix2 r (0 : Fin 1))) e.val := by
  unfold k0_pay4
  dsimp only
  rw [shapeCast_apply _ shapeCasts_S1x32_S1x32 (ix2 (0 : Fin 1) e) (ix2 (0 : Fin 1) e) rfl, cast_row, sum_rows]
  exact Finset.sum_congr rfl fun r _ => pay3_apply E r e

theorem pay5_apply (v : BitVec 32) (cn : Vec Ideal S8x32 .i32) (e : Fin 32) :
    k0_pay5 (F := Ideal) v cn (ix2 (0 : Fin 1) e) = ∑ d : Fin 8, if (BitVec.ofNat 32 d.val).slt v then cn (ix2 d e) else 0#32 := by
  unfold k0_pay5
  dsimp only
  rw [cast_row, sum_rows]
  refine Finset.sum_congr rfl fun d _ => ?_
  pointwise
  show Scalar.select (IntOp.cmpi .slt (BitVec.ofNat 32 d.val) v) (cn (ix2 d e)) 0#32 = _
  by_cases h : (BitVec.ofNat 32 d.val).slt v <;> simp [Scalar.select, IntOp.cmpi, h]

/-- The words that the kernel compares with the capacity. -/
theorem keepOf_eq (v : BitVec 32) (cn : Vec Ideal S8x32 .i32) : keepOf v E cn = cmpi .slt
    (addi (shapeCast S2048x1 (multiReductionI .add [1] S2048 (muli (k0_pay3 (F := Ideal) E) (subi (runSum (k0_pay3 (F := Ideal) E)) (k0_pay3 (F := Ideal) E))) 0#32 reduces_S2048x32_S2048 rfl) shapeCasts_S2048_S2048x1)
      (shapeCast S2048x1 (multiReductionI .add [1] S2048 (muli (k0_pay3 (F := Ideal) E) (broadcastTo S2048x32 (k0_pay5 (F := Ideal) v cn) broadcasts_S1x32_S2048x32)) 0#32 reduces_S2048x32_S2048 rfl) shapeCasts_S2048_S2048x1))
    (broadcast S2048x1 409#32) := rfl

theorem keepOf_apply (v : BitVec 32) (cn : Vec Ideal S8x32 .i32) (r : Fin 2048) :
    keepOf v E cn (ix2 r (0 : Fin 1)) = IntOp.cmpi .slt
      ((∑ e : Fin 32, k0_pay3 (F := Ideal) E (ix2 r e) * (runSum (k0_pay3 (F := Ideal) E) (ix2 r e) - k0_pay3 (F := Ideal) E (ix2 r e)))
        + ∑ e : Fin 32, k0_pay3 (F := Ideal) E (ix2 r e) * k0_pay5 (F := Ideal) v cn (ix2 (0 : Fin 1) e)) 409#32 := by
  rw [keepOf_eq, cmpi_apply, addi_apply, cast_col, cast_col, sum_cols, sum_cols]
  rfl

/-! ## A token's place over all devices -/

theorem one_of_eq {w : BitVec 32} {e : Fin 32} (h : w = BitVec.ofNat 32 e.val) (e' : Fin 32) : one w e'.val = if e' = e then 1#32 else 0#32 := by
  subst h
  revert e e'
  unfold one
  decide

theorem meWord_eq (c : Dev nD) : meWord c = BitVec.ofNat 32 c.val := by
  revert c
  decide

theorem slt_ofNat (d c : Fin 8) : (BitVec.ofNat 32 d.val).slt (BitVec.ofNat 32 c.val) = decide (d.val < c.val) := by
  revert d c
  decide

/-- On a token of expert `e` the two sums are of one term each. -/
theorem keepOf_expert (c : Dev nD) (cn : Vec Ideal S8x32 .i32) (r : Fin 2048) (e : Fin 32) (h : E (ix2 r (0 : Fin 1)) = BitVec.ofNat 32 e.val) :
    keepOf (meWord c) E cn (ix2 r (0 : Fin 1)) = IntOp.cmpi .slt
      (((∑ n ∈ Finset.range (r.val + 1), col (k0_pay3 (F := Ideal) E) e n) - 1#32) + ∑ d : Fin 8, if d.val < c.val then cn (ix2 d e) else 0#32) 409#32 := by
  have hsum : ∀ f : Fin 32 → BitVec 32, ∑ e' : Fin 32, k0_pay3 (F := Ideal) E (ix2 r e') * f e' = f e := fun f => by
    refine (Finset.sum_eq_single e (fun e' _ he => ?_) fun he => absurd (Finset.mem_univ _) he).trans ?_
    · rw [pay3_apply, one_of_eq h, if_neg he]
      exact zero_mul _
    · rw [pay3_apply, one_of_eq h, if_pos rfl]
      exact one_mul _
  have hpre : (∑ d : Fin 8, if (BitVec.ofNat 32 d.val).slt (meWord c) then cn (ix2 d e) else 0#32) = ∑ d : Fin 8, if d.val < c.val then cn (ix2 d e) else 0#32 :=
    Finset.sum_congr rfl fun d _ => by rw [meWord_eq, slt_ofNat]; simp
  rw [keepOf_apply, hsum, hsum, runSum_apply, pay3_apply, one_of_eq h, if_pos rfl, pay5_apply, hpre]

/-- The tokens of expert `e`, one for each, over all devices. -/
def tok (R : IVec (⟨2, ![16384, 1]⟩ : Shape) 32) (e n : ℕ) : BitVec 32 := if h : n < 16384 then one (R (ix2 ⟨n, h⟩ (0 : Fin 1))) e else 0

/-- How many tokens before number `n`, and that one, are of expert `e`. -/
def upTo (R : IVec (⟨2, ![16384, 1]⟩ : Shape) 32) (e n : ℕ) : BitVec 32 := ∑ i ∈ Finset.range (n + 1), tok R e i

/-- Token `n`'s number of earlier tokens of its expert, less than the capacity. -/
def fits (R : IVec (⟨2, ![16384, 1]⟩ : Shape) 32) (e n : ℕ) : BitVec 1 := IntOp.cmpi .slt (upTo R e n - 1#32) 409#32

/-- The kernel keeps exactly the tokens whose number of earlier tokens of the expert, over all devices, is less than
    the capacity. -/
theorem keepOf_fits (R : IVec (⟨2, ![16384, 1]⟩ : Shape) 32) (Es : Dev nD → Vec Ideal S2048x1 .i32)
    (hE : ∀ (d : Dev nD) (r : Fin 2048), Es d (ix2 r (0 : Fin 1)) = R (ix2 ⟨d.val * 2048 + r.val, by have : d.val < 8 := d.isLt; omega⟩ (0 : Fin 1)))
    (cn : Vec Ideal S8x32 .i32) (hcn : ∀ (d : Dev nD) (e : Fin 32), cn (ix2 d e) = k0_pay4 (F := Ideal) (Es d) (ix2 (0 : Fin 1) e))
    (c : Dev nD) (r : Fin 2048) (e : Fin 32) (h : Es c (ix2 r (0 : Fin 1)) = BitVec.ofNat 32 e.val) :
    keepOf (meWord c) (Es c) cn (ix2 r (0 : Fin 1)) = fits R e.val (c.val * 2048 + r.val) := by
  have hc : c.val < 8 := c.isLt
  have htok : ∀ (d : Dev nD) (r : Fin 2048), one (Es d (ix2 r (0 : Fin 1))) e.val = tok R e.val (d.val * 2048 + r.val) := fun d r => by
    have hd : d.val < 8 := d.isLt
    rw [hE, tok, dif_pos (by omega)]
  have hown : ∑ n ∈ Finset.range (r.val + 1), col (k0_pay3 (F := Ideal) (Es c)) e n = ∑ n ∈ Finset.range (r.val + 1), tok R e.val (c.val * 2048 + n) :=
    Finset.sum_congr rfl fun n hn => by
      have hn' : n < 2048 := by have := Finset.mem_range.1 hn; omega
      rw [col, dif_pos hn', pay3_apply, htok]
  have hrow : ∀ d : Fin 8, cn (ix2 d e) = ∑ n ∈ Finset.range 2048, tok R e.val (d.val * 2048 + n) := fun d => by
    rw [hcn d e, pay4_apply, ← Fin.sum_univ_eq_sum_range (fun n => tok R e.val (d.val * 2048 + n)) 2048]
    exact Finset.sum_congr rfl fun r _ => htok d r
  have hbefore : (∑ d : Fin 8, if d.val < c.val then cn (ix2 d e) else 0#32) = ∑ n ∈ Finset.range (c.val * 2048), tok R e.val n := by
    rw [Finset.sum_range_mul_split, Finset.sum_congr rfl fun d _ => by rw [hrow d],
      Fin.sum_univ_eq_sum_range (fun d => if d < c.val then ∑ n ∈ Finset.range 2048, tok R e.val (d * 2048 + n) else 0#32) 8]
    refine (Finset.sum_filter (fun d => d < c.val) _).symm.trans (Finset.sum_congr (Finset.ext fun d => ?_) fun _ _ => rfl)
    rw [Finset.mem_filter, Finset.mem_range, Finset.mem_range]
    omega
  rw [keepOf_expert (Es c) c cn r e h, hown, hbefore, fits, upTo, Nat.add_assoc, Finset.sum_range_add (tok R e.val) (c.val * 2048) (r.val + 1)]
  refine congrArg (fun s => IntOp.cmpi .slt s 409#32) ?_
  rw [sub_add_eq_add_sub, add_comm]
-- ==== Proof.ProductIdeal.lean ====
/-
The products over the reals: one block's product at an index is the sum, over the block's four experts, of a token's
row times the expert's weights where the mask is one.
-/
module

public import proofs.«01_k».proof.Proof.RankIdeal
public import proofs.«01_k».proof.Proof.BodyIdeal

@[expose] public section

noncomputable section

namespace Cert.KernelIdeal.Moe

open Cert.KernelIdeal Cert.KernelIdeal.Gen
open Idealize.ShloMosaic hiding ix0 ix1 ix2 ix3
open Idealize.ShloMosaic.ValueIdx

variable (e : IVec S2048x1 32) (keep : IVec S2048x1 1) (or : BitVec 32) (w : FVec Ideal S4x512x1024 .bf16)

theorem wcat_apply (k : Fin 4) (d : Fin 512) (f : Fin 1024) :
    wcat w (ix2 (⟨k.val * 512 + d.val, by omega⟩ : Fin 2048) f) = w (ix3 k d f) := by
  refine shapeCast_apply _ _ _ _ ?_
  rw [Shape.rowMajor_val_three, Shape.rowMajor_val_two]
  rfl

theorem mask_apply (b : BitVec 32) (t : Fin 2048) : mask (F := Ideal) e keep b (ix2 t (0 : Fin 1))
    = if e (ix2 t (0 : Fin 1)) = b ∧ keep (ix2 t (0 : Fin 1)) = 1#1 then (1 : EReal) else 0 := by
  have key : ∀ x y : BitVec 1, ((BitVec.setWidth 32 (IntOp.andi x y)).toInt : ℝ) = if x = 1#1 ∧ y = 1#1 then 1 else 0 := by
    intro x y
    have hx : x = 0#1 ∨ x = 1#1 := by revert x; decide
    have hy : y = 0#1 ∨ y = 1#1 := by revert y; decide
    rcases hx with rfl | rfl <;> rcases hy with rfl | rfl <;> simp [IntOp.andi]
  have hcmp : IntOp.cmpi .eq (e (ix2 t (0 : Fin 1))) b = 1#1 ↔ e (ix2 t (0 : Fin 1)) = b := by
    show BitVec.ofBool (_ == _) = 1#1 ↔ _
    by_cases h : e (ix2 t (0 : Fin 1)) = b
    · simp [h]
    · rw [beq_eq_false_iff_ne.2 h]; simp [h]
  pointwise [mask]
  show (((BitVec.setWidth 32 (IntOp.andi _ _)).toInt : ℝ) : EReal) = _
  rw [key]
  simp only [hcmp]
  split <;> simp

theorem masked_apply (o : ℕ) (q : Quarter o) (x : Vec Ideal S512x512 .bf16) (mk : FVec Ideal S2048x1 .bf16) (r d : Fin 512) (h : o + r.val < 2048) :
    masked o q.cut x mk (ix2 r d) = (x (ix2 r d) : EReal) * mk (ix2 ⟨o + r.val, h⟩ (0 : Fin 1)) := by
  unfold masked
  rw [mulf_apply, shapeCast_apply x shapeCasts_S512x512_S512x512 (ix2 r d) (ix2 r d) rfl,
    broadcastTo_apply _ broadcasts_S512x1_S512x512 (ix2 r d) (ix2 r (0 : Fin 1)) fun a => match a with | ⟨0, _⟩ => rfl | ⟨1, _⟩ => rfl,
    extractStridedSlice_apply _ mk q.cut (ix2 r (0 : Fin 1)) (ix2 ⟨o + r.val, h⟩ (0 : Fin 1)) fun a => match a with | ⟨0, _⟩ => rfl | ⟨1, _⟩ => rfl]

/-- Four pieces side by side, read in piece `k`. -/
theorem four_apply (A : Fin 4 → FVec Ideal S512x512 .bf16) (r : Fin 512) (k : Fin 4) (d : Fin 512) (l : Fin 2048) (hl : l.val = k.val * 512 + d.val) :
    concatenate S512x2048 1 [⟨S512x512, A 0⟩, ⟨S512x512, A 1⟩, ⟨S512x512, A 2⟩, ⟨S512x512, A 3⟩]
      concatenates_S512x512_S512x512_S512x512_S512x512_S512x2048_d1 (ix2 r l) = A k (ix2 r d) := by
  refine concatenate_ofFn_apply (t := S512x2048) (s₁ := S512x512) 1 A
    concatenates_S512x512_S512x512_S512x512_S512x512_S512x2048_d1 rfl 512 rfl (ix2 r l) k ?_ (ix2 r d) ?_ fun b hb => ?_
  · show l.val / 512 = k.val
    omega
  · show d.val = l.val % 512
    omega
  · match b with
    | ⟨0, _⟩ => rfl
    | ⟨1, _⟩ => exact absurd rfl hb

theorem dot_apply (C : FVec Ideal S512x2048 .bf16) (W : FVec Ideal S2048x1024 .bf16) (r : Fin 512) (f : Fin 1024) :
    matmul dot_S512x2048_S2048x1024_S512x1024_1_0_0_1_n_n none C W (constant S512x1024 .f32 0x00000000#32) (ix2 r f)
      = ∑ l : Fin 2048, (C (ix2 r l) : EReal) * W (ix2 l f) := by
  pointwise
  rfl

/-- A block's product: the four experts' products of the masked rows. -/
theorem contrib_apply (o : ℕ) (q : Quarter o) (x : Vec Ideal S512x512 .bf16) (r : Fin 512) (f : Fin 1024) :
    contrib o q.cut e keep or w x x x x (ix2 r f)
      = ∑ k : Fin 4, ∑ d : Fin 512, (masked o q.cut x (mask (F := Ideal) e keep (expert or (BitVec.ofNat 32 k.val))) (ix2 r d) : EReal) * w (ix3 k d f) := by
  unfold contrib
  refine (dot_apply _ _ r f).trans (Fin.sum_mul_add_congr (L := 2048) fun k d hl => ?_).symm
  rw [← wcat_apply w k d f]
  exact congrArg (· * wcat w (ix2 (⟨k.val * 512 + d.val, hl⟩ : Fin 2048) f))
    (four_apply (fun k => masked o q.cut x (mask (F := Ideal) e keep (expert or (BitVec.ofNat 32 k.val)))) r k d ⟨k.val * 512 + d.val, hl⟩ rfl).symm

/-! ## A token's row -/

/-- Token `t`'s product with the experts of one origin: those of the four that the token goes to and that keep it. -/
def rowSum (X : S2048x512.Idx → EReal) (t : Fin 2048) (f : Fin 1024) : EReal :=
  ∑ k : Fin 4, if e (ix2 t (0 : Fin 1)) = expert or (BitVec.ofNat 32 k.val) ∧ keep (ix2 t (0 : Fin 1)) = 1#1
    then ∑ d : Fin 512, X (ix2 t d) * w (ix3 k d f) else 0

theorem prodQ_apply (o : ℕ) (q : Quarter o) (X : S2048x512.Idx → Elt Ideal .bf16) (r : Fin 512) (f : Fin 1024) (h : o + r.val < 2048) :
    prodQ o q e keep or w X (ix2 r f) = rowSum e keep or w X ⟨o + r.val, h⟩ f := by
  unfold prodQ rowSum
  rw [contrib_apply e keep or w o q]
  refine Finset.sum_congr rfl fun k _ => ?_
  have hx : ∀ d : Fin 512, X ((rx o q).emb (ix2 r d)) = X (ix2 ⟨o + r.val, h⟩ d) := fun d => congrArg X (funext fun a => Fin.ext (by
    match a with
    | ⟨0, _⟩ => show o + 1 * r.val = o + r.val; omega
    | ⟨1, _⟩ => show 0 + 1 * d.val = d.val; omega))
  by_cases hk : e (ix2 ⟨o + r.val, h⟩ (0 : Fin 1)) = expert or (BitVec.ofNat 32 k.val) ∧ keep (ix2 ⟨o + r.val, h⟩ (0 : Fin 1)) = 1#1
  · rw [if_pos hk]
    refine Finset.sum_congr rfl fun d _ => ?_
    rw [masked_apply o q _ _ r d h, mask_apply, if_pos hk, mul_one, hx]
  · rw [if_neg hk]
    refine Finset.sum_eq_zero fun d _ => ?_
    rw [masked_apply o q _ _ r d h, mask_apply, if_neg hk, mul_zero, zero_mul]

theorem prodB_apply (X : S2048x512.Idx → Elt Ideal .bf16) (j : Fin 4) (r : Fin 512) (f : Fin 1024) :
    prodB e keep or w X j (ix2 r f) = rowSum e keep or w X ⟨j.val * 512 + r.val, by omega⟩ f := by
  match j with
  | 0 => exact (prodQ_apply e keep or w 0 q0 X r f (by omega)).trans (congrArg (rowSum e keep or w X · f) (Fin.ext (by show 0 + r.val = 0 * 512 + r.val; omega)))
  | 1 => exact prodQ_apply e keep or w 512 q1 X r f (by omega)
  | 2 => exact prodQ_apply e keep or w 1024 q2 X r f (by omega)
  | 3 => exact prodQ_apply e keep or w 1536 q3 X r f (by omega)

theorem addB_apply (X : S2048x512.Idx → Elt Ideal .bf16) (Y : Fin 4 → S512x1024.Idx → Elt Ideal .f32) (j : Fin 4) (r : Fin 512) (f : Fin 1024) :
    addB e keep or w X Y j (ix2 r f) = (Y j (ix2 r f) : EReal) + rowSum e keep or w X ⟨j.val * 512 + r.val, by omega⟩ f := by
  unfold addB
  rw [addf_apply, prodB_apply, shapeCast_apply (Y j) shapeCasts_S512x1024_S512x1024 (ix2 r f) (ix2 r f) rfl]

/-! ## The eight blocks -/

theorem origin_words (c : Dev nD) : originOf (meWord c) = BitVec.ofNat 32 (up c 0).val
    ∧ originOf (Scalar.subi (meWord c) 1#32) = BitVec.ofNat 32 (up c 7).val ∧ originOf (Scalar.addi (meWord c) 1#32) = BitVec.ofNat 32 (up c 1).val
    ∧ originOf (Scalar.subi (meWord c) 2#32) = BitVec.ofNat 32 (up c 6).val ∧ originOf (Scalar.addi (meWord c) 2#32) = BitVec.ofNat 32 (up c 2).val
    ∧ originOf (Scalar.subi (meWord c) 3#32) = BitVec.ofNat 32 (up c 5).val ∧ originOf (Scalar.addi (meWord c) 3#32) = BitVec.ofNat 32 (up c 3).val
    ∧ originOf (Scalar.subi (meWord c) 4#32) = BitVec.ofNat 32 (up c 4).val := by
  revert c
  decide

theorem expert_word (o : Fin 8) (k : Fin 4) : expert (BitVec.ofNat 32 o.val) (BitVec.ofNat 32 k.val) = BitVec.ofNat 32 (o.val * 4 + k.val) := by
  revert o k
  decide

/-- A sum over all devices, counted from device `c`. -/
theorem sum_up (c : Dev nD) (g : Dev nD → EReal) :
    g (up c 0) + g (up c 7) + g (up c 1) + g (up c 6) + g (up c 2) + g (up c 5) + g (up c 3) + g (up c 4) = ∑ o : Dev nD, g o := by
  have hb : Function.Bijective fun k : Fin 8 => up c k.val := by revert c; decide
  refine Eq.trans ?_ ((Equiv.ofBijective _ hb).sum_comp g)
  show _ = ∑ k : Fin 8, g (up c k.val)
  rw [Fin.sum_univ_eight]
  show _ = g (up c 0) + g (up c 1) + g (up c 2) + g (up c 3) + g (up c 4) + g (up c 5) + g (up c 6) + g (up c 7)
  ac_rfl

variable (Wt : Dev nD → FVec Ideal S4x512x1024 .bf16) (Ct : Dev nD → Vec Ideal S1x32 .i32)

/-- A device's output: every token's row, summed over the experts of every origin. -/
theorem out_apply (c : Dev nD) (X : S2048x512.Idx → Elt Ideal .bf16) (E : S2048x1.Idx → Elt Ideal .i32) (t : Fin 2048) (f : Fin 1024) :
    glue (outQ Wt Ct c X E) (ix2 t f)
      = ∑ o : Dev nD, rowSum E (keepOf (meWord c) E (table Ct)) (BitVec.ofNat 32 o.val) (Wt o) X t f := by
  have ht : (⟨t.val / 512 * 512 + t.val % 512, by omega⟩ : Fin 2048) = t := Fin.ext (Nat.div_add_mod' t.val 512)
  obtain ⟨h0, h7, h1, h6, h2, h5, h3, h4⟩ := origin_words c
  have he : k0_pay2 (F := Ideal) E = E := funext fun i => shapeCast_apply E _ i i rfl
  rw [← sum_up c]
  show outQ Wt Ct c X E ⟨t.val / 512, _⟩ (ix2 (⟨t.val % 512, _⟩ : Fin 512) f) = _
  unfold outQ
  rw [addB_apply, addB_apply, addB_apply, addB_apply, addB_apply, addB_apply, addB_apply, prodB_apply, h0, h1, h2, h3, h4, h5, h6, h7, he, ht]
  have hc : up c 0 = c := Fin.ext (by have := c.isLt; change c.val < 8 at this; rw [up_val]; omega)
  rw [hc]
-- ==== Proof.RefIdeal.lean ====
/-
What the reference computes: a token's row times the weights of its expert if fewer than 409 earlier tokens go to that
expert, else zero.
-/
module

public import proofs.«01_k».proof.Proof.RankIdeal
public import proofs.«01_k».proof.Proof.Gen.ReferenceIdeal

@[expose] public section

noncomputable section

namespace Cert.ReferenceIdeal.Moe

open Cert.ReferenceIdeal Cert.ReferenceIdeal.Gen
open Cert.KernelIdeal.Moe (one tok upTo fits setWidth_cmpi_eq)
open Idealize.ShloMosaic hiding ix0 ix1 ix2 ix3
open Idealize.ShloMosaic.ValueIdx

variable (X : FVec Ideal S16384x512 .bf16) (R : IVec S16384x1 32) (W : FVec Ideal S32x512x1024 .bf16)

/-- The tokens against the experts. -/
def hot : IVec S16384x32 32 :=
  extui 32 (cmpi .eq (broadcastInDim S16384x32 ![0, 1] bcast_S16384x1_S16384x32_0_1 R)
    (broadcastInDim S16384x32 ![0, 1] bcast_S1x32_S16384x32_0_1 (broadcastInDim S1x32 ![1] bcast_S32_S1x32_1 (iotaInDim S32 32 0)))) natLt_1_32

/-- The tokens that an expert takes. -/
def taken : IVec S16384x32 32 :=
  muli (hot R) (extui 32 (cmpi .slt
    (subi (Host.reduceWindow IntOp.addi ![16384, 1] ![1, 1] ![16383, 0] ![0, 0] (hot R) (broadcastInDim S_ ![] bcast_S_S_ (constantI S_ 32 0#32))
      reduceWindows_S16384x32_S16384x32_w16384s1p16383_0_w1s1p0_0 h_S_) (hot R))
    (broadcastInDim S16384x32 ![] bcast_S_S16384x32 (constantI S_ 32 409#32))) natLt_1_32)

/-- The reference's result. -/
def value : FVec Ideal S16384x1024 .f32 :=
  Host.reduceAdd (select (broadcastInDim S16384x32x1024 ![0, 1, 2] bcast_S16384x32x1_S16384x32x1024_0_1_2
      (cmpi .eq (broadcastInDim S16384x32x1 ![0, 1] bcast_S16384x32_S16384x32x1_0_1 (taken R)) (broadcastInDim S16384x32x1 ![] bcast_S_S16384x32x1 (constantI S_ 32 1#32))))
    (Host.dotGeneral dot_S16384x512_S32x512x1024_S16384x32x1024_1_1_0_02_n_n none (extf .f32 X bitsLt_bf16_f32) (extf .f32 W bitsLt_bf16_f32))
    (broadcastInDim S16384x32x1024 ![] bcast_S_S16384x32x1024 (id (constant S_ .f32 0x00000000#32))))
    (constant S_ .f32 0x00000000#32) reducesTo_S16384x32x1024_S16384x1024_d1 h_S_

theorem hot_apply (t : Fin 16384) (e : Fin 32) : hot R (ix2 t e) = one (R (ix2 t (0 : Fin 1))) e.val := by
  pointwise [hot]
  exact setWidth_cmpi_eq _ _

/-- The running sum down the column of an expert. -/
theorem runSum_apply (t : Fin 16384) (e : Fin 32) :
    Host.reduceWindow IntOp.addi ![16384, 1] ![1, 1] ![16383, 0] ![0, 0] (hot R) (broadcastInDim S_ ![] bcast_S_S_ (constantI S_ 32 0#32))
      reduceWindows_S16384x32_S16384x32_w16384s1p16383_0_w1s1p0_0 h_S_ (ix2 t e) = upTo R e.val t.val := by
  refine (Routing.cumsum_rows_sum (A := 16384) (N := 32) rfl (hot R) _ rfl _ _ t e).trans ?_
  have h : ∀ s : Fin 16384, (if s ≤ t then hot R (ix2 s e) else 0) = (fun n => if n ≤ t.val then tok R e.val n else 0) s.val := fun s => by
    show _ = if s.val ≤ t.val then tok R e.val s.val else 0
    rw [hot_apply, tok, dif_pos s.isLt]
    rfl
  rw [Finset.sum_congr rfl fun s _ => h s, Fin.sum_univ_eq_sum_range (fun n => if n ≤ t.val then tok R e.val n else 0) 16384, ← Finset.sum_filter, upTo]
  refine Finset.sum_congr (Finset.ext fun n => ?_) fun _ _ => rfl
  have := t.isLt
  rw [Finset.mem_filter, Finset.mem_range, Finset.mem_range]
  omega

theorem taken_apply (t : Fin 16384) (e : Fin 32) : taken R (ix2 t e) = one (R (ix2 t (0 : Fin 1))) e.val * BitVec.setWidth 32 (IntOp.cmpi .slt (upTo R e.val t.val - one (R (ix2 t (0 : Fin 1))) e.val) 409#32) := by
  show hot R (ix2 t e) * BitVec.setWidth 32 (IntOp.cmpi .slt (_ - hot R (ix2 t e)) 409#32) = _
  rw [runSum_apply, hot_apply]

/-- An expert takes the tokens that go to it and have fewer than 409 before them. -/
theorem taken_eq_one (t : Fin 16384) (e : Fin 32) :
    taken R (ix2 t e) = 1#32 ↔ R (ix2 t (0 : Fin 1)) = BitVec.ofNat 32 e.val ∧ fits R e.val t.val = 1#1 := by
  rw [taken_apply]
  by_cases h : R (ix2 t (0 : Fin 1)) = BitVec.ofNat 32 e.val
  · rw [one, if_pos h]
    show 1 * BitVec.setWidth 32 (fits R e.val t.val) = 1#32 ↔ _
    rw [one_mul, and_iff_right h]
    generalize fits R e.val t.val = b
    revert b
    decide
  · rw [one, if_neg h]
    refine ⟨fun q => absurd ((zero_mul _).symm.trans q) (by decide), fun q => absurd q.1 h⟩

/-- The reference's result at a token and a column. -/
theorem value_apply (t : Fin 16384) (f : Fin 1024) : value X R W (ix2 t f)
    = ∑ e : Fin 32, if R (ix2 t (0 : Fin 1)) = BitVec.ofNat 32 e.val ∧ fits R e.val t.val = 1#1 then ∑ d : Fin 512, (X (ix2 t d) : EReal) * W (ix3 e d f) else 0 := by
  pointwise [value]
  have h : ∀ (e : Fin 32) (v : EReal), Scalar.select (IntOp.cmpi .eq (taken R (ix2 t e)) 1#32) v (id (constant (F := Ideal) S_ .f32 0x00000000#32) ix0)
      = if R (ix2 t (0 : Fin 1)) = BitVec.ofNat 32 e.val ∧ fits R e.val t.val = 1#1 then v else 0 := fun e v => by
    show (if BitVec.ofBool (taken R (ix2 t e) == 1#32) = 1#1 then v else (Ideal.ofBits .f32 0x00000000#32 : EReal)) = _
    rw [Ideal.ofBits_zero_f32]
    by_cases q : taken R (ix2 t e) = 1#32
    · rw [if_pos ((taken_eq_one R t e).mp q), q]; rfl
    · rw [if_neg fun p => q ((taken_eq_one R t e).mpr p), beq_eq_false_iff_ne.mpr q]; rfl
  exact Finset.sum_congr rfl fun e _ => h e _

end Cert.ReferenceIdeal.Moe
-- ==== Proof.ValueIdeal.lean ====
/-
The kernel's output over the reals is the device's block of the reference's result.
-/
module

public import proofs.«01_k».proof.Proof.ProductIdeal
public import proofs.«01_k».proof.Proof.RefIdeal
public import proofs.«01_k».proof.Proof.LaunchIdeal

@[expose] public section

noncomputable section

namespace Cert.KernelIdeal.Moe

open Cert.KernelIdeal Cert.KernelIdeal.Gen
open Idealize.ShloMosaic hiding ix0 ix1 ix2 ix3
open Idealize.ShloMosaic.ValueIdx

variable (m : (ℓ : Loc nD τ sig) → Buf (Elt Ideal) ℓ)
variable (X : FVec Ideal ⟨2, ![16384, 512]⟩ .bf16) (R : IVec ⟨2, ![16384, 1]⟩ 32) (W : FVec Ideal ⟨3, ![32, 512, 1024]⟩ .bf16)

theorem outOf_block
    (hX : ∀ c : Dev nD, m ((c.tc : Thread nD τ).loc main_arg0) = Layout.block ⟨2, ![2048, 512]⟩ ⟨2, ![16384, 512]⟩ 0 8 c X)
    (hR : ∀ c : Dev nD, m ((c.tc : Thread nD τ).loc main_arg2) = Layout.block ⟨2, ![2048, 1]⟩ ⟨2, ![16384, 1]⟩ 0 8 c R)
    (hW : ∀ c : Dev nD, m ((c.tc : Thread nD τ).loc main_arg3) = Layout.block ⟨3, ![4, 512, 1024]⟩ ⟨3, ![32, 512, 1024]⟩ 0 8 c W) (c : Dev nD) :
    outOf m c = Layout.block ⟨2, ![2048, 1024]⟩ ⟨2, ![16384, 1024]⟩ 0 8 c (Cert.ReferenceIdeal.Moe.value X R W) := by
  have row (d : Dev nD) (r : Fin 2048) : d.val * 2048 + r.val < 16384 := by have : d.val < 8 := d.isLt; omega
  have hx : ∀ (t : Fin 2048) (d : Fin 512), xOf m c (ix2 t d) = X (ix2 ⟨c.val * 2048 + t.val, row c t⟩ d) := fun t d => by
    rw [xOf_eq]
    refine (congrFun (hX c) _).trans (congrArg X (funext fun a => Fin.ext ?_))
    fin_cases a <;> rfl
  have he : ∀ (d : Dev nD) (r : Fin 2048), eOf m d (ix2 r (0 : Fin 1)) = R (ix2 ⟨d.val * 2048 + r.val, row d r⟩ (0 : Fin 1)) := fun d r => by
    rw [eOf_eq]
    refine (congrFun (hR d) _).trans (congrArg R (funext fun a => Fin.ext ?_))
    fin_cases a <;> rfl
  have hw : ∀ (o : Dev nD) (k : Fin 4) (d : Fin 512) (f : Fin 1024) (hl : o.val * 4 + k.val < 32), wOf m o (ix3 k d f) = W (ix3 ⟨o.val * 4 + k.val, hl⟩ d f) := fun o k d f hl => by
    rw [wOf_eq]
    refine (congrFun (hW o) _).trans (congrArg W (funext fun a => Fin.ext ?_))
    fin_cases a <;> rfl
  funext i
  obtain ⟨t, f, rfl⟩ : ∃ (t : Fin 2048) (f : Fin 1024), i = ix2 t f := ⟨i 0, i 1, funext fun a => by fin_cases a <;> rfl⟩
  have hi : (Layout.block ⟨2, ![2048, 1024]⟩ ⟨2, ![16384, 1024]⟩ 0 8 c (Cert.ReferenceIdeal.Moe.value X R W)) (ix2 t f)
      = Cert.ReferenceIdeal.Moe.value X R W (ix2 ⟨c.val * 2048 + t.val, row c t⟩ f) := by
    generalize Cert.ReferenceIdeal.Moe.value X R W = v
    refine (Layout.block_apply ..).trans (congrArg v (funext fun a => Fin.ext ?_))
    fin_cases a <;> rfl
  rw [hi, Cert.ReferenceIdeal.Moe.value_apply, outOf, out_apply]
  refine Fin.sum_mul_add_congr (S := 8) (n := 4) (L := 32) fun o k hl => ?_
  show (if _ = expert (BitVec.ofNat 32 o.val) (BitVec.ofNat 32 k.val) ∧ _ then _ else (0 : EReal)) = _
  rw [expert_word]
  have hk := fun h => keepOf_fits R (eOf m) he (table (cOf m)) (fun _ _ => rfl) c t ⟨o.val * 4 + k.val, hl⟩ h
  have hc : (eOf m c (ix2 t (0 : Fin 1)) = BitVec.ofNat 32 (o.val * 4 + k.val) ∧ keepOf (meWord c) (eOf m c) (table (cOf m)) (ix2 t (0 : Fin 1)) = 1#1)
      ↔ (R (ix2 ⟨c.val * 2048 + t.val, row c t⟩ (0 : Fin 1)) = BitVec.ofNat 32 (o.val * 4 + k.val) ∧ fits R (o.val * 4 + k.val) (c.val * 2048 + t.val) = 1#1) := by
    rw [← he c t]
    exact and_congr_right fun h => by rw [hk h]
  exact ite_congr (propext hc) (fun _ => Finset.sum_congr rfl fun d _ => by rw [hx, hw o k d f hl]) fun _ => rfl

end Cert.KernelIdeal.Moe
-- ==== Proof.lean ====
/-
The certificate: the two frames of the kernel from its run (Proof/Launch, Proof/LaunchIdeal), the reference's from its
generated run, and the equality of their results over the reals (Proof/ValueIdeal).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.ValueIdeal
public import Idealize.ShloMosaic.Adequacy
public import Idealize.ShloMosaic.Init

@[expose] public section

noncomputable section

namespace Cert.Proof

open Idealize.ShloMosaic Idealize.SL.Sem

theorem frame_p : @Cert.quiescent_Kernel Cert.Kernel.Gen.facts := fun m ρ _ =>
  (θ_run Cert.Kernel.defs _ _).mono (fun _ h => ⟨fun c => (h.1 c).2, h.2⟩) (Cert.Kernel.Moe.run (F := Bits) m ρ)

theorem frame_pi : @Cert.quiescent_KernelIdeal Cert.KernelIdeal.Gen.facts := fun m ρ _ =>
  (θ_run Cert.KernelIdeal.defs _ _).mono (fun _ h => ⟨fun c => (h.1 c).2, h.2⟩) (Cert.KernelIdeal.Moe.run (F := Ideal) m ρ)

theorem frame_ri : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : @Cert.algebraic_KernelIdeal_ReferenceIdeal Cert.KernelIdeal.Gen.facts Cert.ReferenceIdeal.Gen.facts := fun m g m' g' _ h =>
  ⟨_, (θ_run Cert.KernelIdeal.defs _ _).mono (fun _ r c => ⟨((r.1 c).1).trans (Cert.KernelIdeal.Moe.outOf_block m _ _ _
      (fun c => (h c).1) (fun c => (h c).2.2.1) (fun c => (h c).2.2.2) c), (r.1 c).2⟩) (Cert.KernelIdeal.Moe.run (F := Ideal) m g),
    (θ_run Cert.ReferenceIdeal.defs _ _).mono (fun _ r => r 0) (Cert.ReferenceIdeal.Value.run (F := Ideal) m' g')⟩

theorem claim : Cert.Claim := ⟨Cert.Kernel.Gen.facts, Cert.KernelIdeal.Gen.facts, Cert.ReferenceIdeal.Gen.facts,
  frame_p, frame_pi, frame_ri, trivial, algebraic⟩

end Cert.Proof

end
